-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_selectable [hKernelIdeal : Cert.KernelIdeal.Facts] [hReferenceIdeal : Cert.ReferenceIdeal.Facts] [hOn_selectable : Cert.On_selectable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 8192]⟩ ⟨2, ![1024, 16384]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_selectable.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_selectable.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_selectable : Cert.On_selectable.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_selectable (hKernelIdeal := hKernelIdeal) (hReferenceIdeal := hReferenceIdeal) (hOn_selectable := hOn_selectable)
-- ==== On_selectable.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x31 : Shape := ⟨2, ![1024, 31]⟩
abbrev S1024 : Shape := ⟨1, ![1024]⟩
abbrev S1024x2x64x128 : Shape := ⟨4, ![1024, 2, 64, 128]⟩
abbrev S1024x1 : Shape := ⟨2, ![1024, 1]⟩
abbrev S1024x1x1x1 : Shape := ⟨4, ![1024, 1, 1, 1]⟩
abbrev S1024x2x128 : Shape := ⟨3, ![1024, 2, 128]⟩

class Facts : Prop where
  slices_S1024x16384_S1024x32_0_0 : S1024x16384.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  slices_S1024x32_S1024x31_0_0 : S1024x32.Slices ![0, 0] S1024x31
  slices_S1024x32_S1024x31_0_1 : S1024x32.Slices ![0, 1] S1024x31
  reducesTo_S1024x31_S1024_d1 : S1024x31.ReducesTo [1] S1024
  shapeCasts_S1024x16384_S1024x2x64x128 : S1024x16384.ShapeCasts S1024x2x64x128
  slices_S1024x32_S1024x1_0_31 : S1024x32.Slices ![0, 31] S1024x1
  shapeCasts_S1024x1_S1024 : S1024x1.ShapeCasts S1024
  shapeCasts_S1024_S1024x1x1x1 : S1024.ShapeCasts S1024x1x1x1
  bcast_S1024x1x1x1_S1024x2x64x128_0_1_2_3 : S1024x1x1x1.BroadcastsInDim S1024x2x64x128 (![0, 1, 2, 3] : Fin 4 → Fin S1024x2x64x128.rank)
  natLt_1_32 : 1 < 32
  reducesTo_S1024x2x64x128_S1024x2x128_d2 : S1024x2x64x128.ReducesTo [2] S1024x2x128
  bcast_S_S1024x2x128 : S_.BroadcastsInDim S1024x2x128 (![] : Fin 0 → Fin S1024x2x128.rank)
  reducesTo_S1024x2x128_S1024_d1_2 : S1024x2x128.ReducesTo [1, 2] S1024
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  gather_S1024x16384_S1024x32x1_S1024x32_n_1_0_0_1_2_11_wf : GatherDims.WF S1024x16384 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x16384_S1024x32x1_S1024x32_n_1_0_0_1_2_11 : GatherDims S1024x16384 S1024x32x1 S1024x32 where
  offsetDims := []
  collapsedSliceDims := [1]
  operandBatchingDims := [0]
  startIndicesBatchingDims := [0]
  startIndexMap := [1]
  indexVectorDim := 2
  sliceSizes := ![1, 1]
  wf := gather_S1024x16384_S1024x32x1_S1024x32_n_1_0_0_1_2_11_wf

def fn_argsort {F : FTy → Type} [FloatOps F] (arg0 : FVec F S1024x16384 .f32) : IVec S1024x16384 32 :=
  let v0 : IVec S1024x16384 32 := iotaInDim S1024x16384 32 1
  let v1_0 : FVec F S1024x16384 .f32 := (fun x y => (Host.sort2 S1024x16384 1 comparator_f32_i32_d1 x y).1) arg0 v0
  let v1_1 : IVec S1024x16384 32 := (fun x y => (Host.sort2 S1024x16384 1 comparator_f32_i32_d1 x y).2) arg0 v0
  v1_1

def fn_take_along_axis {F : FTy → Type} [FloatOps F] (arg0 : FVec F S1024x16384 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 16384#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 16383#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x16384_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn_part1 {F : FTy → Type} [FloatOps F] (main_v19 : IVec S1024 1) : IVec S1024x32 1 :=
  let main_v20 : IVec S1024x1 1 := broadcastInDim S1024x1 ![0] bcast_S1024_S1024x1_0 main_v19
  let main_v21 : IVec S1024x32 1 := broadcastInDim S1024x32 ![0, 1] bcast_S1024x1_S1024x32_0_1 main_v20
  main_v21

def fn {F : FTy → Type} [FloatOps F] (main_arg0 : FVec F S1024x16384 .f32) : IVec S1024x32 1 :=
  let main_v0 : FVec F S1024x16384 .f32 := Host.negf main_arg0
  let main_v1 : IVec S1024x16384 32 := fn_argsort (F := F) main_v0
  let main_v2 : IVec S1024x32 32 := (extractStridedSlice S1024x32 ![0, 0] · slices_S1024x16384_S1024x32_0_0) main_v1
  let main_v3 : FVec F S1024x32 .f32 := fn_take_along_axis (F := F) main_arg0 main_v2
  let main_v4 : FVec F S1024x31 .f32 := (extractStridedSlice S1024x31 ![0, 0] · slices_S1024x32_S1024x31_0_0) main_v3
  let main_v5 : FVec F S1024x31 .f32 := (extractStridedSlice S1024x31 ![0, 1] · slices_S1024x32_S1024x31_0_1) main_v3
  let main_v6 : IVec S1024x31 1 := cmpf .ogt main_v4 main_v5
  let main_c : IVec S_ 1 := constantI S_ 1 1#1
  let main_v7 : IVec S1024 1 := (fun x v => Host.reduce IntOp.andi x v reducesTo_S1024x31_S1024_d1 h_S_) main_v6 main_c
  let main_v8 : FVec F S1024x2x64x128 .f32 := shapeCast S1024x2x64x128 main_arg0 shapeCasts_S1024x16384_S1024x2x64x128
  let main_v9 : FVec F S1024x1 .f32 := (extractStridedSlice S1024x1 ![0, 31] · slices_S1024x32_S1024x1_0_31) main_v3
  let main_v10 : FVec F S1024 .f32 := shapeCast S1024 main_v9 shapeCasts_S1024x1_S1024
  let main_v11 : FVec F S1024x1x1x1 .f32 := shapeCast S1024x1x1x1 main_v10 shapeCasts_S1024_S1024x1x1x1
  let main_v12 : FVec F S1024x2x64x128 .f32 := broadcastInDim S1024x2x64x128 ![0, 1, 2, 3] bcast_S1024x1x1x1_S1024x2x64x128_0_1_2_3 main_v11
  let main_v13 : IVec S1024x2x64x128 1 := cmpf .oge main_v8 main_v12
  let main_v14 : IVec S1024x2x64x128 32 := (extui 32 · natLt_1_32) main_v13
  let main_c_0 : IVec S_ 32 := constantI S_ 32 0#32
  let main_v15 : IVec S1024x2x128 32 := (fun x v => Host.reduce IntOp.addi x v reducesTo_S1024x2x64x128_S1024x2x128_d2 h_S_) main_v14 main_c_0
  let main_c_1 : IVec S_ 32 := constantI S_ 32 6#32
  let main_v16 : IVec S1024x2x128 32 := broadcastInDim S1024x2x128 ![] bcast_S_S1024x2x128 main_c_1
  let main_v17 : IVec S1024x2x128 1 := cmpi .sle main_v15 main_v16
  let main_c_2 : IVec S_ 1 := constantI S_ 1 1#1
  let main_v18 : IVec S1024 1 := (fun x v => Host.reduce IntOp.andi x v reducesTo_S1024x2x128_S1024_d1_2 h_S_) main_v17 main_c_2
  let main_v19 : IVec S1024 1 := andi main_v7 main_v18
  fn_part1 (F := F) main_v19
-- ==== Kernel.lean ====
abbrev S1024x8192 : Shape := ⟨2, ![1024, 8192]⟩
abbrev S1024x32 : Shape := ⟨2, ![1024, 32]⟩
abbrev S2x256x8192 : Shape := ⟨3, ![2, 256, 8192]⟩
abbrev S2 : Shape := ⟨1, ![2]⟩
abbrev S_ : Shape := ⟨0, ![]⟩
abbrev S1 : Shape := ⟨1, ![1]⟩
abbrev S1x256x8192 : Shape := ⟨3, ![1, 256, 8192]⟩
abbrev S256x8192 : Shape := ⟨2, ![256, 8192]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x32 : Shape := ⟨2, ![256, 32]⟩
abbrev S256x64 : Shape := ⟨2, ![256, 64]⟩

abbrev nBuf : Space → Nat
  | .hbm => 2
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S1024x32, .f32⟩
  | .local _ .vmem, ⟨1, _⟩ => ⟨S2x256x8192, .f32⟩
  | .local _ .vmem, ⟨2, _⟩ => ⟨S1024x32, .f32⟩
  | .local _ .vmem, ⟨3, _⟩ => ⟨S1024x32, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_9 : BitVec 32 := 16#32
  let v16 : BitVec 32 := Scalar.muli v9 c16_i32_9
  let v17 : BitVec 32 := Scalar.addi c0_i32_10 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v18 : BitVec 32 := Scalar.muli v5 c4_i32_11
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v20 : BitVec 32 := Scalar.muli v8 c1_i32_12
  let v21 : BitVec 32 := Scalar.addi v19 v20
  v21.toNat
@[reducible] def k0_t1_loop : Scf.Loop 32 :=
  let c0_i32_14 : BitVec 32 := 0#32
  let c4_i32_15 : BitVec 32 := 4#32
  let v22 : BitVec 32 := Scalar.addi c0_i32_14 c4_i32_15
  let c1_i32_16 : BitVec 32 := 1#32
  ⟨c0_i32_14, v22, c1_i32_16⟩
def k0_off1 (k0_t1 : Fin k0_t1_loop.trips) : Fin 1 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  ![v42.toNat]
def k0_off2 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let c0_i32_39 : BitVec 32 := 0#32
  let c0_i32_40 : BitVec 32 := 0#32
  ![v42.toNat, 0, 0]
def k0_off3 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32 : BitVec 32 := 256#32
  let v43 : BitVec 32 := Scalar.muli arg8 c256_i32
  let c0_i32_41 : BitVec 32 := 0#32
  ![v43.toNat, 0]
def k0_cond1 (k0_t1 : Fin k0_t1_loop.trips) : BitVec 1 :=
  let c0_i32_14 : BitVec 32 := 0#32
  let c1_i32_16 : BitVec 32 := 1#32
  let arg8 : BitVec 32 := Scf.iv c0_i32_14 c1_i32_16 k0_t1
  let c1_i32_42 : BitVec 32 := 1#32
  let v49 : BitVec 32 := Scalar.addi arg8 c1_i32_42
  let c4_i32_43 : BitVec 32 := 4#32
  let v50 : BitVec 1 := Scalar.cmpi .slt v49 c4_i32_43
  let v51 : BitVec 32 := Scalar.extui v50
  let c0_i32_44 : BitVec 32 := 0#32
  let v52 : BitVec 1 := Scalar.cmpi .ne v51 c0_i32_44
  v52

def k0_off4 (k0_t1 : Fin k0_t1_loop.trips) : Fin 1 → Nat :=
  let c0_i32_14 : BitVec 32 := 0#32
  let c1_i32_16 : BitVec 32 := 1#32
  let arg8 : BitVec 32 := Scf.iv c0_i32_14 c1_i32_16 k0_t1
  let c1_i32_175 : BitVec 32 := 1#32
  let v1408 : BitVec 32 := Scalar.addi arg8 c1_i32_175
  let c2_i32_176 : BitVec 32 := 2#32
  let v1409 : BitVec 32 := Scalar.remsi v1408 c2_i32_176
  ![v1409.toNat]
def k0_off5 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c1_i32_175 : BitVec 32 := 1#32
  let v1408 : BitVec 32 := Scalar.addi arg8 c1_i32_175
  let c2_i32_176 : BitVec 32 := 2#32
  let v1409 : BitVec 32 := Scalar.remsi v1408 c2_i32_176
  let c0_i32_178 : BitVec 32 := 0#32
  let c0_i32_179 : BitVec 32 := 0#32
  ![v1409.toNat, 0, 0]
def k0_off6 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c1_i32_174 : BitVec 32 := 1#32
  let v1407 : BitVec 32 := Scalar.addi arg8 c1_i32_174
  let c256_i32_177 : BitVec 32 := 256#32
  let v1410 : BitVec 32 := Scalar.muli v1407 c256_i32_177
  let c0_i32_180 : BitVec 32 := 0#32
  ![v1410.toNat, 0]
def k0_off7 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v60 : Index := Scalar.indexCast v42
  let c0 : Index := 0#32
  let c0_51 : Index := 0#32
  ![v60.toNat, 0, 0]
def k0_off8 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v74 : Index := Scalar.indexCast v42
  let c0_52 : Index := 0#32
  let c128 : Index := 128#32
  ![v74.toNat, 0, 128]
def k0_off9 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v88 : Index := Scalar.indexCast v42
  let c0_53 : Index := 0#32
  let c256 : Index := 256#32
  ![v88.toNat, 0, 256]
def k0_off10 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v102 : Index := Scalar.indexCast v42
  let c0_54 : Index := 0#32
  let c384 : Index := 384#32
  ![v102.toNat, 0, 384]
def k0_off11 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v116 : Index := Scalar.indexCast v42
  let c0_55 : Index := 0#32
  let c512 : Index := 512#32
  ![v116.toNat, 0, 512]
def k0_off12 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v130 : Index := Scalar.indexCast v42
  let c0_56 : Index := 0#32
  let c640 : Index := 640#32
  ![v130.toNat, 0, 640]
def k0_off13 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v144 : Index := Scalar.indexCast v42
  let c0_57 : Index := 0#32
  let c768 : Index := 768#32
  ![v144.toNat, 0, 768]
def k0_off14 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v158 : Index := Scalar.indexCast v42
  let c0_58 : Index := 0#32
  let c896 : Index := 896#32
  ![v158.toNat, 0, 896]
def k0_off15 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v172 : Index := Scalar.indexCast v42
  let c0_59 : Index := 0#32
  let c1024 : Index := 1024#32
  ![v172.toNat, 0, 1024]
def k0_off16 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v186 : Index := Scalar.indexCast v42
  let c0_60 : Index := 0#32
  let c1152 : Index := 1152#32
  ![v186.toNat, 0, 1152]
def k0_off17 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v200 : Index := Scalar.indexCast v42
  let c0_61 : Index := 0#32
  let c1280 : Index := 1280#32
  ![v200.toNat, 0, 1280]
def k0_off18 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v214 : Index := Scalar.indexCast v42
  let c0_62 : Index := 0#32
  let c1408 : Index := 1408#32
  ![v214.toNat, 0, 1408]
def k0_off19 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v228 : Index := Scalar.indexCast v42
  let c0_63 : Index := 0#32
  let c1536 : Index := 1536#32
  ![v228.toNat, 0, 1536]
def k0_off20 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v242 : Index := Scalar.indexCast v42
  let c0_64 : Index := 0#32
  let c1664 : Index := 1664#32
  ![v242.toNat, 0, 1664]
def k0_off21 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v256 : Index := Scalar.indexCast v42
  let c0_65 : Index := 0#32
  let c1792 : Index := 1792#32
  ![v256.toNat, 0, 1792]
def k0_off22 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v270 : Index := Scalar.indexCast v42
  let c0_66 : Index := 0#32
  let c1920 : Index := 1920#32
  ![v270.toNat, 0, 1920]
def k0_off23 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v284 : Index := Scalar.indexCast v42
  let c0_67 : Index := 0#32
  let c2048 : Index := 2048#32
  ![v284.toNat, 0, 2048]
def k0_off24 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v298 : Index := Scalar.indexCast v42
  let c0_68 : Index := 0#32
  let c2176 : Index := 2176#32
  ![v298.toNat, 0, 2176]
def k0_off25 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v312 : Index := Scalar.indexCast v42
  let c0_69 : Index := 0#32
  let c2304 : Index := 2304#32
  ![v312.toNat, 0, 2304]
def k0_off26 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v326 : Index := Scalar.indexCast v42
  let c0_70 : Index := 0#32
  let c2432 : Index := 2432#32
  ![v326.toNat, 0, 2432]
def k0_off27 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v340 : Index := Scalar.indexCast v42
  let c0_71 : Index := 0#32
  let c2560 : Index := 2560#32
  ![v340.toNat, 0, 2560]
def k0_off28 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v354 : Index := Scalar.indexCast v42
  let c0_72 : Index := 0#32
  let c2688 : Index := 2688#32
  ![v354.toNat, 0, 2688]
def k0_off29 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v368 : Index := Scalar.indexCast v42
  let c0_73 : Index := 0#32
  let c2816 : Index := 2816#32
  ![v368.toNat, 0, 2816]
def k0_off30 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v382 : Index := Scalar.indexCast v42
  let c0_74 : Index := 0#32
  let c2944 : Index := 2944#32
  ![v382.toNat, 0, 2944]
def k0_off31 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v396 : Index := Scalar.indexCast v42
  let c0_75 : Index := 0#32
  let c3072 : Index := 3072#32
  ![v396.toNat, 0, 3072]
def k0_off32 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v410 : Index := Scalar.indexCast v42
  let c0_76 : Index := 0#32
  let c3200 : Index := 3200#32
  ![v410.toNat, 0, 3200]
def k0_off33 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v424 : Index := Scalar.indexCast v42
  let c0_77 : Index := 0#32
  let c3328 : Index := 3328#32
  ![v424.toNat, 0, 3328]
def k0_off34 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v438 : Index := Scalar.indexCast v42
  let c0_78 : Index := 0#32
  let c3456 : Index := 3456#32
  ![v438.toNat, 0, 3456]
def k0_off35 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v452 : Index := Scalar.indexCast v42
  let c0_79 : Index := 0#32
  let c3584 : Index := 3584#32
  ![v452.toNat, 0, 3584]
def k0_off36 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v466 : Index := Scalar.indexCast v42
  let c0_80 : Index := 0#32
  let c3712 : Index := 3712#32
  ![v466.toNat, 0, 3712]
def k0_off37 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v480 : Index := Scalar.indexCast v42
  let c0_81 : Index := 0#32
  let c3840 : Index := 3840#32
  ![v480.toNat, 0, 3840]
def k0_off38 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v494 : Index := Scalar.indexCast v42
  let c0_82 : Index := 0#32
  let c3968 : Index := 3968#32
  ![v494.toNat, 0, 3968]
def k0_off39 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v508 : Index := Scalar.indexCast v42
  let c0_83 : Index := 0#32
  let c4096 : Index := 4096#32
  ![v508.toNat, 0, 4096]
def k0_off40 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v522 : Index := Scalar.indexCast v42
  let c0_84 : Index := 0#32
  let c4224 : Index := 4224#32
  ![v522.toNat, 0, 4224]
def k0_off41 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v536 : Index := Scalar.indexCast v42
  let c0_85 : Index := 0#32
  let c4352 : Index := 4352#32
  ![v536.toNat, 0, 4352]
def k0_off42 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v550 : Index := Scalar.indexCast v42
  let c0_86 : Index := 0#32
  let c4480 : Index := 4480#32
  ![v550.toNat, 0, 4480]
def k0_off43 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v564 : Index := Scalar.indexCast v42
  let c0_87 : Index := 0#32
  let c4608 : Index := 4608#32
  ![v564.toNat, 0, 4608]
def k0_off44 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v578 : Index := Scalar.indexCast v42
  let c0_88 : Index := 0#32
  let c4736 : Index := 4736#32
  ![v578.toNat, 0, 4736]
def k0_off45 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v592 : Index := Scalar.indexCast v42
  let c0_89 : Index := 0#32
  let c4864 : Index := 4864#32
  ![v592.toNat, 0, 4864]
def k0_off46 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v606 : Index := Scalar.indexCast v42
  let c0_90 : Index := 0#32
  let c4992 : Index := 4992#32
  ![v606.toNat, 0, 4992]
def k0_off47 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v620 : Index := Scalar.indexCast v42
  let c0_91 : Index := 0#32
  let c5120 : Index := 5120#32
  ![v620.toNat, 0, 5120]
def k0_off48 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v634 : Index := Scalar.indexCast v42
  let c0_92 : Index := 0#32
  let c5248 : Index := 5248#32
  ![v634.toNat, 0, 5248]
def k0_off49 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v648 : Index := Scalar.indexCast v42
  let c0_93 : Index := 0#32
  let c5376 : Index := 5376#32
  ![v648.toNat, 0, 5376]
def k0_off50 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v662 : Index := Scalar.indexCast v42
  let c0_94 : Index := 0#32
  let c5504 : Index := 5504#32
  ![v662.toNat, 0, 5504]
def k0_off51 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v676 : Index := Scalar.indexCast v42
  let c0_95 : Index := 0#32
  let c5632 : Index := 5632#32
  ![v676.toNat, 0, 5632]
def k0_off52 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v690 : Index := Scalar.indexCast v42
  let c0_96 : Index := 0#32
  let c5760 : Index := 5760#32
  ![v690.toNat, 0, 5760]
def k0_off53 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v704 : Index := Scalar.indexCast v42
  let c0_97 : Index := 0#32
  let c5888 : Index := 5888#32
  ![v704.toNat, 0, 5888]
def k0_off54 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v718 : Index := Scalar.indexCast v42
  let c0_98 : Index := 0#32
  let c6016 : Index := 6016#32
  ![v718.toNat, 0, 6016]
def k0_off55 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v732 : Index := Scalar.indexCast v42
  let c0_99 : Index := 0#32
  let c6144 : Index := 6144#32
  ![v732.toNat, 0, 6144]
def k0_off56 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v746 : Index := Scalar.indexCast v42
  let c0_100 : Index := 0#32
  let c6272 : Index := 6272#32
  ![v746.toNat, 0, 6272]
def k0_off57 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v760 : Index := Scalar.indexCast v42
  let c0_101 : Index := 0#32
  let c6400 : Index := 6400#32
  ![v760.toNat, 0, 6400]
def k0_off58 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v774 : Index := Scalar.indexCast v42
  let c0_102 : Index := 0#32
  let c6528 : Index := 6528#32
  ![v774.toNat, 0, 6528]
def k0_off59 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v788 : Index := Scalar.indexCast v42
  let c0_103 : Index := 0#32
  let c6656 : Index := 6656#32
  ![v788.toNat, 0, 6656]
def k0_off60 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v802 : Index := Scalar.indexCast v42
  let c0_104 : Index := 0#32
  let c6784 : Index := 6784#32
  ![v802.toNat, 0, 6784]
def k0_off61 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v816 : Index := Scalar.indexCast v42
  let c0_105 : Index := 0#32
  let c6912 : Index := 6912#32
  ![v816.toNat, 0, 6912]
def k0_off62 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v830 : Index := Scalar.indexCast v42
  let c0_106 : Index := 0#32
  let c7040 : Index := 7040#32
  ![v830.toNat, 0, 7040]
def k0_off63 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v844 : Index := Scalar.indexCast v42
  let c0_107 : Index := 0#32
  let c7168 : Index := 7168#32
  ![v844.toNat, 0, 7168]
def k0_off64 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v858 : Index := Scalar.indexCast v42
  let c0_108 : Index := 0#32
  let c7296 : Index := 7296#32
  ![v858.toNat, 0, 7296]
def k0_off65 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v872 : Index := Scalar.indexCast v42
  let c0_109 : Index := 0#32
  let c7424 : Index := 7424#32
  ![v872.toNat, 0, 7424]
def k0_off66 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v886 : Index := Scalar.indexCast v42
  let c0_110 : Index := 0#32
  let c7552 : Index := 7552#32
  ![v886.toNat, 0, 7552]
def k0_off67 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v900 : Index := Scalar.indexCast v42
  let c0_111 : Index := 0#32
  let c7680 : Index := 7680#32
  ![v900.toNat, 0, 7680]
def k0_off68 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v914 : Index := Scalar.indexCast v42
  let c0_112 : Index := 0#32
  let c7808 : Index := 7808#32
  ![v914.toNat, 0, 7808]
def k0_off69 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v928 : Index := Scalar.indexCast v42
  let c0_113 : Index := 0#32
  let c7936 : Index := 7936#32
  ![v928.toNat, 0, 7936]
def k0_off70 (k0_t1 : Fin k0_t1_loop.trips) : Fin 3 → Nat :=
  let c0_i32_14 : BitVec 32 := 0#32
  let c1_i32_16 : BitVec 32 := 1#32
  let arg8 : BitVec 32 := Scf.iv c0_i32_14 c1_i32_16 k0_t1
  let c2_i32_38 : BitVec 32 := 2#32
  let v42 : BitVec 32 := Scalar.remsi arg8 c2_i32_38
  let v942 : Index := Scalar.indexCast v42
  let c0_114 : Index := 0#32
  let c8064 : Index := 8064#32
  ![v942.toNat, 0, 8064]
def k0_off71 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v958 : Index := Scalar.indexCast v53
  let c0_116 : Index := 0#32
  ![v958.toNat, 0]
def k0_off72 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v973 : Index := Scalar.indexCast v53
  let c1 : Index := 1#32
  ![v973.toNat, 1]
def k0_off73 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v988 : Index := Scalar.indexCast v53
  let c2 : Index := 2#32
  ![v988.toNat, 2]
def k0_off74 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1003 : Index := Scalar.indexCast v53
  let c3 : Index := 3#32
  ![v1003.toNat, 3]
def k0_off75 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1018 : Index := Scalar.indexCast v53
  let c4 : Index := 4#32
  ![v1018.toNat, 4]
def k0_off76 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1033 : Index := Scalar.indexCast v53
  let c5 : Index := 5#32
  ![v1033.toNat, 5]
def k0_off77 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1048 : Index := Scalar.indexCast v53
  let c6 : Index := 6#32
  ![v1048.toNat, 6]
def k0_off78 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1063 : Index := Scalar.indexCast v53
  let c7 : Index := 7#32
  ![v1063.toNat, 7]
def k0_off79 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1078 : Index := Scalar.indexCast v53
  let c8 : Index := 8#32
  ![v1078.toNat, 8]
def k0_off80 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1093 : Index := Scalar.indexCast v53
  let c9 : Index := 9#32
  ![v1093.toNat, 9]
def k0_off81 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1108 : Index := Scalar.indexCast v53
  let c10 : Index := 10#32
  ![v1108.toNat, 10]
def k0_off82 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1123 : Index := Scalar.indexCast v53
  let c11 : Index := 11#32
  ![v1123.toNat, 11]
def k0_off83 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1138 : Index := Scalar.indexCast v53
  let c12 : Index := 12#32
  ![v1138.toNat, 12]
def k0_off84 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1153 : Index := Scalar.indexCast v53
  let c13 : Index := 13#32
  ![v1153.toNat, 13]
def k0_off85 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1168 : Index := Scalar.indexCast v53
  let c14 : Index := 14#32
  ![v1168.toNat, 14]
def k0_off86 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1183 : Index := Scalar.indexCast v53
  let c15 : Index := 15#32
  ![v1183.toNat, 15]
def k0_off87 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1198 : Index := Scalar.indexCast v53
  let c16 : Index := 16#32
  ![v1198.toNat, 16]
def k0_off88 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1213 : Index := Scalar.indexCast v53
  let c17 : Index := 17#32
  ![v1213.toNat, 17]
def k0_off89 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1228 : Index := Scalar.indexCast v53
  let c18 : Index := 18#32
  ![v1228.toNat, 18]
def k0_off90 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1243 : Index := Scalar.indexCast v53
  let c19 : Index := 19#32
  ![v1243.toNat, 19]
def k0_off91 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1258 : Index := Scalar.indexCast v53
  let c20 : Index := 20#32
  ![v1258.toNat, 20]
def k0_off92 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1273 : Index := Scalar.indexCast v53
  let c21 : Index := 21#32
  ![v1273.toNat, 21]
def k0_off93 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1288 : Index := Scalar.indexCast v53
  let c22 : Index := 22#32
  ![v1288.toNat, 22]
def k0_off94 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1303 : Index := Scalar.indexCast v53
  let c23 : Index := 23#32
  ![v1303.toNat, 23]
def k0_off95 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1318 : Index := Scalar.indexCast v53
  let c24 : Index := 24#32
  ![v1318.toNat, 24]
def k0_off96 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1333 : Index := Scalar.indexCast v53
  let c25 : Index := 25#32
  ![v1333.toNat, 25]
def k0_off97 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1348 : Index := Scalar.indexCast v53
  let c26 : Index := 26#32
  ![v1348.toNat, 26]
def k0_off98 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1361 : Index := Scalar.indexCast v53
  let c27 : Index := 27#32
  ![v1361.toNat, 27]
def k0_off99 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1373 : Index := Scalar.indexCast v53
  let c28 : Index := 28#32
  ![v1373.toNat, 28]
def k0_off100 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1384 : Index := Scalar.indexCast v53
  let c29 : Index := 29#32
  ![v1384.toNat, 29]
def k0_off101 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1394 : Index := Scalar.indexCast v53
  let c30 : Index := 30#32
  ![v1394.toNat, 30]
def k0_off102 (k0_t1 : Fin k0_t1_loop.trips) : Fin 2 → Nat :=
  let c0_i32_14 : BitVec 32 := 0#32
  let c1_i32_16 : BitVec 32 := 1#32
  let arg8 : BitVec 32 := Scf.iv c0_i32_14 c1_i32_16 k0_t1
  let c256_i32_45 : BitVec 32 := 256#32
  let v53 : BitVec 32 := Scalar.muli arg8 c256_i32_45
  let v1403 : Index := Scalar.indexCast v53
  let c31 : Index := 31#32
  ![v1403.toNat, 31]
def k0_dev2 (d0 : Dev nD) : Nat :=
  let c0_i32_19 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_18 : BitVec 32 := 16#32
  let v23 : BitVec 32 := Scalar.muli v9 c16_i32_18
  let v24 : BitVec 32 := Scalar.addi c0_i32_19 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v25 : BitVec 32 := Scalar.muli v5 c4_i32_20
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v27 : BitVec 32 := Scalar.muli v8 c1_i32_21
  let v28 : BitVec 32 := Scalar.addi v26 v27
  v28.toNat
@[reducible] def k0_t2_loop : Scf.Loop 32 :=
  let c0_i32_27 : BitVec 32 := 0#32
  let c4_i32_28 : BitVec 32 := 4#32
  let v35 : BitVec 32 := Scalar.addi c0_i32_27 c4_i32_28
  let c1_i32_29 : BitVec 32 := 1#32
  ⟨c0_i32_27, v35, c1_i32_29⟩
def k0_off103 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v43 : Index := Scalar.indexCast v42
  let c0 : Index := 0#32
  ![v43.toNat, 0]
def k0_off104 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v50 : Index := Scalar.indexCast v42
  let c0_39 : Index := 0#32
  ![v50.toNat, 0]
def k0_off105 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v58 : Index := Scalar.indexCast v42
  let c1 : Index := 1#32
  ![v58.toNat, 1]
def k0_off106 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v66 : Index := Scalar.indexCast v42
  let c2 : Index := 2#32
  ![v66.toNat, 2]
def k0_off107 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v74 : Index := Scalar.indexCast v42
  let c3 : Index := 3#32
  ![v74.toNat, 3]
def k0_off108 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v82 : Index := Scalar.indexCast v42
  let c4 : Index := 4#32
  ![v82.toNat, 4]
def k0_off109 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v90 : Index := Scalar.indexCast v42
  let c5 : Index := 5#32
  ![v90.toNat, 5]
def k0_off110 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v98 : Index := Scalar.indexCast v42
  let c6 : Index := 6#32
  ![v98.toNat, 6]
def k0_off111 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v106 : Index := Scalar.indexCast v42
  let c7 : Index := 7#32
  ![v106.toNat, 7]
def k0_off112 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v114 : Index := Scalar.indexCast v42
  let c8 : Index := 8#32
  ![v114.toNat, 8]
def k0_off113 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v122 : Index := Scalar.indexCast v42
  let c9 : Index := 9#32
  ![v122.toNat, 9]
def k0_off114 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v130 : Index := Scalar.indexCast v42
  let c10 : Index := 10#32
  ![v130.toNat, 10]
def k0_off115 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v138 : Index := Scalar.indexCast v42
  let c11 : Index := 11#32
  ![v138.toNat, 11]
def k0_off116 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v146 : Index := Scalar.indexCast v42
  let c12 : Index := 12#32
  ![v146.toNat, 12]
def k0_off117 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v154 : Index := Scalar.indexCast v42
  let c13 : Index := 13#32
  ![v154.toNat, 13]
def k0_off118 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v162 : Index := Scalar.indexCast v42
  let c14 : Index := 14#32
  ![v162.toNat, 14]
def k0_off119 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v170 : Index := Scalar.indexCast v42
  let c15 : Index := 15#32
  ![v170.toNat, 15]
def k0_off120 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v178 : Index := Scalar.indexCast v42
  let c16 : Index := 16#32
  ![v178.toNat, 16]
def k0_off121 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v186 : Index := Scalar.indexCast v42
  let c17 : Index := 17#32
  ![v186.toNat, 17]
def k0_off122 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v194 : Index := Scalar.indexCast v42
  let c18 : Index := 18#32
  ![v194.toNat, 18]
def k0_off123 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v202 : Index := Scalar.indexCast v42
  let c19 : Index := 19#32
  ![v202.toNat, 19]
def k0_off124 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v210 : Index := Scalar.indexCast v42
  let c20 : Index := 20#32
  ![v210.toNat, 20]
def k0_off125 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v218 : Index := Scalar.indexCast v42
  let c21 : Index := 21#32
  ![v218.toNat, 21]
def k0_off126 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v226 : Index := Scalar.indexCast v42
  let c22 : Index := 22#32
  ![v226.toNat, 22]
def k0_off127 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v234 : Index := Scalar.indexCast v42
  let c23 : Index := 23#32
  ![v234.toNat, 23]
def k0_off128 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v242 : Index := Scalar.indexCast v42
  let c24 : Index := 24#32
  ![v242.toNat, 24]
def k0_off129 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v250 : Index := Scalar.indexCast v42
  let c25 : Index := 25#32
  ![v250.toNat, 25]
def k0_off130 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v258 : Index := Scalar.indexCast v42
  let c26 : Index := 26#32
  ![v258.toNat, 26]
def k0_off131 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v266 : Index := Scalar.indexCast v42
  let c27 : Index := 27#32
  ![v266.toNat, 27]
def k0_off132 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v274 : Index := Scalar.indexCast v42
  let c28 : Index := 28#32
  ![v274.toNat, 28]
def k0_off133 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v282 : Index := Scalar.indexCast v42
  let c29 : Index := 29#32
  ![v282.toNat, 29]
def k0_off134 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v290 : Index := Scalar.indexCast v42
  let c30 : Index := 30#32
  ![v290.toNat, 30]
def k0_off135 (k0_t2 : Fin k0_t2_loop.trips) : Fin 2 → Nat :=
  let c0_i32_27 : BitVec 32 := 0#32
  let c1_i32_29 : BitVec 32 := 1#32
  let arg8 : BitVec 32 := Scf.iv c0_i32_27 c1_i32_29 k0_t2
  let c256_i32 : BitVec 32 := 256#32
  let v42 : BitVec 32 := Scalar.muli arg8 c256_i32
  let v298 : Index := Scalar.indexCast v42
  let c31 : Index := 31#32
  ![v298.toNat, 31]
def k0_dev3 (d0 : Dev nD) : Nat :=
  let c0_i32_33 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_32 : BitVec 32 := 16#32
  let v36 : BitVec 32 := Scalar.muli v9 c16_i32_32
  let v37 : BitVec 32 := Scalar.addi c0_i32_33 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v38 : BitVec 32 := Scalar.muli v5 c4_i32_34
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v40 : BitVec 32 := Scalar.muli v8 c1_i32_35
  let v41 : BitVec 32 := Scalar.addi v39 v40
  v41.toNat
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x16384 : Shape := ⟨2, ![1024, 16384]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S1024x16384, .i32⟩
  | .hbm, ⟨3, _⟩ => ⟨S1024x16384, .f32⟩
  | .hbm, ⟨4, _⟩ => ⟨S1024x16384, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Spec.lean ====
/-
What one trip of each loop of the kernel computes, as vectors: the six registers a lane keeps while the trip goes
through the 64 chunks of its rows, the state that shrinks while 32 columns are emitted, and the state of the merge
of two blocks' columns. Stated over any float instance.
-/
module

public import proofs.«01_k».proof.Proof.Gen.KernelIdeal.Skeleton

@[expose] public section

noncomputable section

namespace Cert.KernelIdeal.Top

open Cert.KernelIdeal Cert.KernelIdeal.Gen
open Idealize.ShloMosaic

variable {F : FTy → Type} [FloatOps F]

/-- The constant the kernel starts its registers from. -/
def negInf : F .f32 := Scalar.ofBits .f32 0xFF800000#32

/-- A vector of it. -/
def low : FVec F S256x128 .f32 := broadcast S256x128 negInf

/-- A loaded chunk without its leading unit axis. -/
def chunk (v : Vec F S1x256x128 .f32) : FVec F S256x128 .f32 := shapeCast S256x128 v shapeCasts_S1x256x128_S256x128

/-- What is left of the element `t` after it has gone past the registers `r 0, …, r (s - 1)`. -/
def past (r : ℕ → FVec F S256x128 .f32) (t : FVec F S256x128 .f32) : ℕ → FVec F S256x128 .f32
  | 0 => t
  | s + 1 => minimumf (r s) (past r t s)

/-- Register `s` after the first `n` chunks. -/
def reg (ld : ℕ → Vec F S1x256x128 .f32) : ℕ → ℕ → FVec F S256x128 .f32
  | 0 => fun _ => low
  | n + 1 => fun s => maximumf (reg ld n s) (past (reg ld n) (chunk (ld n)) s)

/-- What is left of chunk `n` after registers `0, …, s - 1`. -/
abbrev rest (ld : ℕ → Vec F S1x256x128 .f32) (n s : ℕ) : FVec F S256x128 .f32 := past (reg ld n) (chunk (ld n)) s

/-- The greatest element of each row of a frontier, as a column. -/
def top (v : FVec F S256x128 .f32) : FVec F S256x1 .f32 :=
  shapeCast S256x1 (multiReduction .maximumf [1] S256 v 0xFF800000#32 reduces_S256x128_S256 (.inl rfl) rfl) shapeCasts_S256_S256x1

/-- The lanes whose frontier is the row's greatest. -/
def hit (v : FVec F S256x128 .f32) : IVec S256x128 1 := cmpf .oeq v (broadcastTo S256x128 (top v) broadcasts_S256x1_S256x128)

/-- The lanes hit move up by one. -/
def moveUp (h : IVec S256x128 1) (q : ℕ → FVec F S256x128 .f32) : ℕ → FVec F S256x128 .f32
  | 5 => select h low (q 5)
  | s => select h (q (s + 1)) (q s)

/-- The lanes' elements after `i` columns were emitted. -/
def left (ld : ℕ → Vec F S1x256x128 .f32) : ℕ → ℕ → FVec F S256x128 .f32
  | 0 => reg ld 64
  | i + 1 => moveUp (hit (left ld i 0)) (left ld i)

/-- Column `i` of what the trip emits. -/
def col (ld : ℕ → Vec F S1x256x128 .f32) (i : ℕ) : FVec F S256x1 .f32 :=
  shapeCast S256x1 (top (left ld i 0)) shapeCasts_S256x1_S256x1

/-- The greatest element of each row of the 64 merged columns. -/
def best (v : FVec F S256x64 .f32) : FVec F S256 .f32 := multiReduction .maximumf [1] S256 v 0xFF800000#32 reduces_S256x64_S256 (.inl rfl) rfl

/-- It as a column. -/
def outCol (v : FVec F S256x64 .f32) : FVec F S256x1 .f32 := shapeCast S256x1 (best v) shapeCasts_S256_S256x1

/-- The 64 columns with those equal to the greatest struck out. -/
def strike (v : FVec F S256x64 .f32) : FVec F S256x64 .f32 :=
  select (cmpf .oeq v (broadcastTo S256x64 (outCol v) broadcasts_S256x1_S256x64)) (broadcast S256x64 negInf) v

/-- The 64 columns of the merge after `i` columns were written. -/
def merge (a b : Vec F S256x32 .f32) : ℕ → FVec F S256x64 .f32
  | 0 => concatenate S256x64 1 [⟨S256x32, a⟩, ⟨S256x32, b⟩] concatenates_S256x32_S256x32_S256x64_d1
  | i + 1 => strike (merge a b i)

end Cert.KernelIdeal.Top
-- ==== Proof.Steps.lean ====
/-
One load of a chunk and one store of a column, as steps at the head of a program.
-/
module

public import proofs.«01_k».proof.Proof.Spec
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.WritesUnit
public import Idealize.ShloMosaic.Lib.Transfers
public import Idealize.ShloMosaic.Lib.ValueIdx

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, the rounds' (two duty names) and the counters of the local copies -/

abbrev UB : Type := URounds (GSem nD τ sig) Bool
abbrev UU : Type := UR sig nD τ × (UB × Counters)

local notation "𝕄" => MT nD τ sig Bool (Elt F) ℕ UU ℕ

abbrev 𝒱₀ : Variants := Variants.none

/-- The weakest precondition of a program of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Chunk loads -/

/-- The elements `S` of the two-slot buffer, holding `f`, include slot `t % 2`, whose chunk `n` reads `ld n`. -/
structure Holds (arg2 : Memref sig .tc .vmem S2x256x8192 .f32) (t : ℕ) (S : Finset arg2.view.ty.Idx)
    (f : arg2.view.ty.Contents (Elt F)) (ld : ℕ → Vec F S1x256x128 .f32) : Prop where
  sub : ∀ n, n < 64 → ∀ inb, arg2.view.setOn (Rect.unit (s := S2x256x8192) ![t % 2, 0, 128 * n] S1x256x128.size inb).toLoadRect.set ⊆ S
  val : ∀ n, n < 64 → ∀ inb, arg2.view.readAt (Elt F) (Rect.unit (s := S2x256x8192) ![t % 2, 0, 128 * n] S1x256x128.size inb).toLoadRect f = ld n

variable (c : Dev nD)

theorem wp_ld {α : Type} {arg2 : Memref sig .tc .vmem S2x256x8192 .f32} {t : ℕ} {S : Finset arg2.view.ty.Idx}
    {f : arg2.view.ty.Contents (Elt F)} {ld : ℕ → Vec F S1x256x128 .f32} (H : Holds arg2 t S f ld)
    (n : ℕ) (hn : n < 64) {off : Fin 3 → ℕ} (hoff : off = ![t % 2, 0, 128 * n]) {inb}
    {hl : arg2.view.LoadsAt (Rect.unit (s := S2x256x8192) off S1x256x128.size inb).toLoadRect}
    {k : Vec F S1x256x128 .f32 → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (k (ld n)) Q)
        -∗ Wp c (.op (.load arg2 (Rect.unit (s := S2x256x8192) off S1x256x128.size inb).toLoadRect hl) k) Q) := by
  subst hoff
  rw [← H.val n hn inb]
  exact wp_load 𝒱₀ (c : Thread nD τ) none Set.univ (H.sub n hn inb)

/-! ## Column stores -/

/-- `G`'s rows `256 t ≤ · < 256 (t + 1)` are the columns `cl`. -/
def ColsOf (G : Vec F S1024x32 .f32) (t : ℕ) (cl : ℕ → FVec F S256x1 .f32) : Prop :=
  ∀ (y : S1024x32.Idx) (x : S256x1.Idx), (y 0).val = 256 * t + (x 0).val → G y = cl (y 1).val x

/-- A buffer reads `G` on the rows of the trips before `t` and on the first `i` columns of trip `t`'s rows. -/
def Done (M : Memref sig .tc .vmem S1024x32 .f32) (G : Vec F S1024x32 .f32) (t i : ℕ) (g : M.view.ty.Contents (Elt F)) : Prop :=
  ∀ y : S1024x32.Idx, (y 0).val < 256 * t ∨ ((y 0).val < 256 * (t + 1) ∧ (y 1).val < i) → M.view.read (Elt F) g y = G y

/-- The buffer, held whole, so far as `Done` says. -/
def Cols (M : Memref sig .tc .vmem S1024x32 .f32) (G : Vec F S1024x32 .f32) (t i : ℕ) : sProp 𝕄 :=
  iprop(∃ g, (M.view.loc (c : Thread nD τ) ↦[M.view.set]{fullShare} g) ∗ ⌜Done M G t i g⌝)

theorem done_next {M : Memref sig .tc .vmem S1024x32 .f32} {G : Vec F S1024x32 .f32} {t : ℕ} {g : M.view.ty.Contents (Elt F)}
    (h : Done M G t 32 g) : Done M G (t + 1) 0 g := fun y hy => h y (by
  have h1 : (y 1).val < 32 := (y 1).isLt
  omega)

theorem wp_look {α : Type} {M : Memref sig .tc .vmem S1024x32 .f32} {G : Vec F S1024x32 .f32} {t i : ℕ} {r : LoadRect S1024x32} {hl : M.view.LoadsAt r}
    {k : (r.shape.Idx → Elt F .f32) → Prog (TpuEff nD τ sig (Elt F) Λ₀ .tc) α} {Q : α → sProp 𝕄} :
    Cols c M G t i
      ⊢ iprop((∀ w, Cols c M G t i -∗ Wp c (k w) Q) -∗ Wp c (.op (.load M r hl) k) Q) := by
  unfold Cols
  iintro ⟨%g, HM, %hg⟩ K
  iapply (wp_load 𝒱₀ (c : Thread nD τ) none Set.univ (M.view.setOn_subset_set _)) $$ HM
  iintro HM
  iapply K
  iexists g; isplitl [HM]; · iexact HM
  ipureintro; exact hg

theorem wp_col {α : Type} {M : Memref sig .tc .vmem S1024x32 .f32} {G : Vec F S1024x32 .f32} {t : ℕ} {cl : ℕ → FVec F S256x1 .f32}
    (hG : ColsOf G t cl) (i : ℕ) {off : Fin 2 → ℕ} (hoff : off = ![256 * t, i]) {inb hx hm}
    {k : PUnit → Prog (TpuEff nD τ sig (Elt F) Λ₀ .tc) α} {Q : α → sProp 𝕄} :
    Cols c M G t i
      ⊢ iprop((Cols c M G t (i + 1) -∗ Wp c (k ⟨⟩) Q)
        -∗ Wp c (.op (.store M (Rect.unit (s := S1024x32) off S256x1.size inb) (cl i) Finset.univ hx hm) k) Q) := by
  subst hoff
  unfold Cols
  iintro ⟨%g, HM, %hg⟩ K
  have hS : (M.access (Rect.unit (s := S1024x32) ![256 * t, i] S256x1.size inb)).setOn Finset.univ ⊆ M.view.set := by
    rw [View.setOn_univ, View.set_slice]; exact M.view.setOn_subset_set _
  iapply (wp_store (m := M) (r := Rect.unit (s := S1024x32) ![256 * t, i] S256x1.size inb) (w := cl i) (f := g) 𝒱₀ (c : Thread nD τ) none Set.univ hS) $$ HM
  iintro HM
  iapply K
  iexists _; isplitl [HM]; · iexact HM
  ipureintro
  intro y hy
  have h1 : (y 1).val < 32 := (y 1).isLt
  by_cases hin : 256 * t ≤ (y 0).val ∧ (y 0).val < 256 * (t + 1) ∧ (y 1).val = i
  · obtain ⟨ha, hb, hi⟩ := hin
    have hlt : (y 0).val - 256 * t < 256 := by omega
    rw [hG y (Idealize.ShloMosaic.ValueIdx.ix2 ⟨(y 0).val - 256 * t, hlt⟩ 0) (by simp; omega), hi]
    exact View.read_writes_cons_unit_of_mem M.view g inb (cl i) [] y _ rfl (by
      intro a; fin_cases a
      · simp; omega
      · simp; omega)
  · by_cases h : (y 1).val = i
    · exact (View.read_writes_cons_unit_of_not_mem M.view g inb (cl i) [] y rfl 0 (by simp; omega)).trans (hg y (by omega))
    · exact (View.read_writes_cons_unit_of_not_mem M.view g inb (cl i) [] y rfl 1 (by simp; omega)).trans (hg y (by omega))

end Cert.KernelIdeal.Top
-- ==== Proof.Copies.lean ====
/-
The blocks of 256 rows that the first loop copies into the two slots of its buffer: one copy is under way while the
block before it is worked on. A copy is started and waited for here, and what a landed block holds is read off.
-/
module

public import proofs.«01_k».proof.Proof.Steps
public import Idealize.ShloMosaic.Lib.ValueLayout
public import Idealize.ShloMosaic.Lib.Writes

@[expose] public section

set_option maxRecDepth 16384

noncomputable section

namespace Cert.KernelIdeal.Top

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## Slots and blocks -/

theorem slot_inb (u : Fin 2) : ∀ a, (![u.val, 0, 0] : Fin 3 → ℕ) a + S1x256x8192.size a ≤ S2x256x8192.size a := by
  revert u; decide

theorem blk_inb (b : Fin 4) : ∀ a, (![256 * b.val, 0] : Fin 2 → ℕ) a + S256x8192.size a ≤ S1024x8192.size a := by
  revert b; decide

theorem sem_inb (u : Fin 2) : ∀ a, (![u.val] : Fin 1 → ℕ) a + S1.size a ≤ S2.size a := by
  revert u; decide

/-- The slot block `k` lands in. -/
def par (k : ℕ) : Fin 2 := ⟨k % 2, Nat.mod_lt _ (by decide)⟩

theorem par_two (k : ℕ) : par (k + 2) = par k := Fin.ext (by simp [par])

abbrev slotR (u : Fin 2) : Rect S2x256x8192 := Rect.unit (s := S2x256x8192) ![u.val, 0, 0] S1x256x8192.size (slot_inb u)
abbrev blkR (b : Fin 4) : Rect S1024x8192 := Rect.unit (s := S1024x8192) ![256 * b.val, 0] S256x8192.size (blk_inb b)

/-- Slot `u` of the two-slot buffer. -/
abbrev slotM (M : Memref sig .tc .vmem S2x256x8192 .f32) (u : Fin 2) : Memref sig .tc .vmem S256x8192 .f32 :=
  (M.slice (slotR u) (fun _ => rfl)).squeeze S256x8192 squeezes_S1x256x8192_S256x8192
/-- Block `b` of the rows. -/
abbrev blkM (A : Memref sig .tc .hbm S1024x8192 .f32) (b : Fin 4) : Memref sig .tc .hbm S256x8192 .f32 := A.slice (blkR b) (fun _ => rfl)
/-- The semaphore of slot `u`'s copies. -/
abbrev semOf (s : DmaSems sig S2) (u : Fin 2) : DmaSem sig :=
  ((s.slice (Rect.unit (s := S2) ![u.val] S1.size (sem_inb u))).squeeze S_ squeezes_S1_S_).sem

abbrev slotS (M : Memref sig .tc .vmem S2x256x8192 .f32) (u : Fin 2) : Finset M.view.ty.Idx := (M.view.slice (slotR u)).set

/-- Chunk `n` of block `b` of the rows `x`. -/
def ldOf (x : Vec F S1024x8192 .f32) (b n : ℕ) : Vec F S1x256x128 .f32 := fun i =>
  x (ix2 ⟨(256 * b + (i 1).val) % 1024, Nat.mod_lt _ (by decide)⟩ ⟨(128 * n + (i 2).val) % 8192, Nat.mod_lt _ (by decide)⟩)

/-- A slot a block has landed in holds the block's chunks. -/
theorem holds_landed (M : Memref sig .tc .vmem S2x256x8192 .f32) (A : Memref sig .tc .hbm S1024x8192 .f32) (b : Fin 4)
    (fd : M.view.ty.Contents (Elt F)) (fx : A.view.ty.Contents (Elt F)) :
    Holds M b.val (slotS M (par b)) ((slotM M (par b)).view.write (Elt F) fd ((blkM A b).view.read (Elt F) fx) Finset.univ)
      (ldOf (A.view.read (Elt F) fx) b.val) where
  sub n hn inb := by
    unfold slotS
    rw [View.set_slice]
    intro y hy
    obtain ⟨x, hx, rfl⟩ := Finset.mem_map.mp hy
    refine Finset.mem_map_of_mem _ ?_
    rw [Rect.mem_set_unit] at hx ⊢
    have h0 := hx 0; have h1 := hx 1; have h2 := hx 2
    intro a; fin_cases a
    · exact h0
    · exact h1
    · exact ⟨Nat.zero_le _, (x 2).isLt⟩
  val n hn inb := by
    funext i
    have h0 : (i 0).val < 1 := (i 0).isLt
    have h1 : (i 1).val < 256 := (i 1).isLt
    have h2 : (i 2).val < 128 := (i 2).isLt
    have hb := b.isLt
    rw [View.readAt_apply]
    have hw := View.write_reshape_univ (Val := Elt F) (M.view.slice (slotR (par b.val))) squeezes_S1x256x8192_S256x8192.numel_eq fd
      ((blkM A b).view.read (Elt F) fx)
    refine (congrFun (congrArg (M.view.read (Elt F)) hw) _).trans ?_
    refine (View.read_writes_cons_unit_of_mem M.view fd (slot_inb (par b.val)) _ [] _
      (ix3 (⟨0, Nat.one_pos⟩ : Fin 1) ⟨(i 1).val, h1⟩ ⟨128 * n + (i 2).val, by omega⟩) rfl (by
        intro a; fin_cases a
        · show b.val % 2 + 1 * (i 0).val = b.val % 2 + 0
          omega
        · show 0 + 1 * (i 1).val = 0 + (i 1).val
          omega
        · show 128 * n + 1 * (i 2).val = 0 + (128 * n + (i 2).val)
          omega)).trans ?_
    rw [(Equiv.symm_apply_eq _).mpr (Idealize.ShloMosaic.ValueIdx.reshapeEquiv_ix2_1ab squeezes_S1x256x8192_S256x8192.numel_eq
      (⟨(i 1).val, h1⟩ : Fin 256) (⟨128 * n + (i 2).val, by omega⟩ : Fin 8192)).symm]
    show A.view.read (Elt F) fx ((blkR b).emb _) = _
    unfold ldOf
    congr 1
    funext a; fin_cases a
    · refine Fin.ext ?_
      show 256 * b.val + 1 * (i 1).val = (256 * b.val + (i 1).val) % 1024
      omega
    · refine Fin.ext ?_
      show 0 + 1 * (128 * n + (i 2).val) = (128 * n + (i 2).val) % 8192
      omega

/-! ## The copies under way -/

variable (c : Dev nD) (A : Memref sig .tc .hbm S1024x8192 .f32) (M : Memref sig .tc .vmem S2x256x8192 .f32) (s : DmaSems sig S2)

/-- The rows, held whole. -/
def rowsAt (x : A.view.ty.Contents (Elt F)) : sProp 𝕄 := A.view.loc (c : Thread nD τ) ↦[A.view.set]{fullShare} x
/-- Slot `u`, holding anything. -/
def slotAny (u : Fin 2) : sProp 𝕄 := iprop(∃ f, M.view.loc (c : Thread nD τ) ↦[slotS M u]{fullShare} f)
/-- Slot `u`'s semaphore at zero. -/
def semZero (u : Fin 2) : sProp 𝕄 := semVal ((c : Thread nD τ), .dma (semOf s u)) 0

/-- Block `b` on its way to its slot; the rest of the rows stays. -/
def Fly (x : A.view.ty.Contents (Elt F)) (b : Fin 4) : sProp 𝕄 :=
  iprop((∃ fd, Transfers.Flight countersEmb (c : Thread nD τ) (.dma (semOf s (par b.val))) false (slotM M (par b.val)).view.dmaCredit
      iprop((M.view.loc (c : Thread nD τ) ↦[slotS M (par b.val)]{fullShare}
          ((slotM M (par b.val)).view.write (Elt F) fd ((blkM A b).view.read (Elt F) x) Finset.univ))
        ∗ (A.view.loc (c : Thread nD τ) ↦[(A.view.slice (blkR b)).set]{fullShare} x)))
    ∗ (A.view.loc (c : Thread nD τ) ↦[A.view.set \ (A.view.slice (blkR b)).set]{fullShare} x))

theorem wp_start {α : Type} {x : A.view.ty.Contents (Elt F)} (b : Fin 4) {offS : Fin 1 → ℕ} {offD : Fin 3 → ℕ} {offB : Fin 2 → ℕ}
    (hS : offS = ![(par b.val).val]) (hD : offD = ![(par b.val).val, 0, 0]) (hB : offB = ![256 * b.val, 0]) {i1 i2 i3 hsrc hdst hsem}
    {k : PUnit → Prog (TpuEff nD τ sig (Elt F) Λ₀ .tc) α} {Q : α → sProp 𝕄} :
    iprop(rowsAt c A x ∗ slotAny c M (par b.val) ∗ semZero c s (par b.val))
      ⊢ iprop((Fly c A M s x b -∗ Wp c (k ⟨⟩) Q)
        -∗ Wp c (.op (.enqueueDma (A.slice (Rect.unit (s := S1024x8192) offB S256x8192.size i1) (fun _ => rfl))
            (.here ((M.slice (Rect.unit (s := S2x256x8192) offD S1x256x8192.size i2) (fun _ => rfl)).squeeze S256x8192 squeezes_S1x256x8192_S256x8192))
            (.dma ((s.slice (Rect.unit (s := S2) offS S1.size i3)).squeeze S_ squeezes_S1_S_).sem) hsrc hdst hsem) k) Q) := by
  subst hS; subst hD; subst hB
  unfold rowsAt slotAny semZero
  iintro ⟨HX, ⟨%fd, HD⟩, HZ⟩ K
  ihave H2 := (pointsTo_split_subset (ℓ := A.view.loc (c : Thread nD τ)) (f := x) (q := fullShare) (View.set_slice_subset A.view (blkR b))).1 $$ HX
  icases H2 with ⟨HB, HR⟩
  iapply (Transfers.wp_dmaLocal countersEmb 𝒱₀ (c : Thread nD τ) none (src := blkM A b) (dst := slotM M (par b.val)) (sm := .dma (semOf s (par b.val)))
      (Sd := slotS M (par b.val)) (fd := fd) (fs := x) false
      (slotM M (par b.val)).view.dmaCredit (View.amount_dma _ _) (View.dmaCredit_pos _ (by decide)) (by rw [View.set_reshape])) $$ [HB HD HZ]
  · isplitl [HB]; · iexact HB
    isplitl [HD]; · iexact HD
    iexact HZ
  iintro HF
  iapply K
  unfold Fly
  isplitl [HF]
  · iexists fd; iexact HF
  iexact HR

theorem wp_landed {α : Type} {x : A.view.ty.Contents (Elt F)} (b : Fin 4) {offS : Fin 1 → ℕ} {offD : Fin 3 → ℕ}
    (hS : offS = ![(par b.val).val]) (hD : offD = ![(par b.val).val, 0, 0]) {i2 i3}
    {srcw : Memref sig .tc .hbm S256x8192 .f32} {hsrc hdst} {O : CellTallies nD τ sig Bool} {W : Waits sig Bool}
    {k : PUnit → Prog (TpuEff nD τ sig (Elt F) Λ₀ .tc) α} {Q : α → sProp 𝕄} :
    iprop(Fly c A M s x b ∗ owes (c : Thread nD τ) O W ∗ MayWait (c : Thread nD τ) (.dma (semOf s (par b.val))) false O)
      ⊢ iprop((∀ f, (⌜Holds M b.val (slotS M (par b.val)) f (ldOf (A.view.read (Elt F) x) b.val)⌝
            ∗ (M.view.loc (c : Thread nD τ) ↦[slotS M (par b.val)]{fullShare} f) ∗ rowsAt c A x ∗ semZero c s (par b.val)
            ∗ (∃ W', owes (c : Thread nD τ) O W')) -∗ Wp c (k ⟨⟩) Q)
        -∗ Wp c (.op (.waitDma2 ((s.slice (Rect.unit (s := S2) offS S1.size i3)).squeeze S_ squeezes_S1_S_).sem srcw
            ((M.slice (Rect.unit (s := S2x256x8192) offD S1x256x8192.size i2) (fun _ => rfl)).squeeze S256x8192 squeezes_S1x256x8192_S256x8192)
            hsrc hdst) k) Q) := by
  subst hS; subst hD
  unfold rowsAt semZero Fly
  iintro ⟨⟨⟨%fd, HF⟩, HR⟩, HO, HM⟩ K
  iapply (Transfers.wp_waitLocalO countersEmb 𝒱₀ (c : Thread nD τ) none (dstw := slotM M (par b.val)) false rfl) $$ [HF HO HM]
  · isplitl [HF]; · iexact HF
    isplitl [HO]; · iexact HO
    iexact HM
  iintro ⟨⟨HD, HB⟩, HZ, HO⟩
  iapply K
  isplitr; · ipureintro; exact holds_landed M A b fd x
  isplitl [HD]; · iexact HD
  isplitl [HB HR]
  · iapply (pointsTo_split_subset (ℓ := A.view.loc (c : Thread nD τ)) (f := x) (q := fullShare) (View.set_slice_subset A.view (blkR b))).2
    isplitl [HB] <;> iassumption
  isplitl [HZ]; · iexact HZ
  iexists _; iexact HO

end Cert.KernelIdeal.Top
-- ==== Proof.Scan.lean ====
/-
The first half of a trip of the kernel's first loop, part by part: chunk after chunk goes past the six registers of its
lane. Each part is given what the parts before it left and leaves what it computed, named by the register and the number
of chunks it has seen; the loads are the only effects.
-/
module

public import proofs.«01_k».proof.Proof.Steps

@[expose] public section

set_option maxRecDepth 16384

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (c : Dev nD) (arg0 : Memref sig .tc .hbm S1024x8192 .f32) (harg0 : arg0.IsWhole) (arg1 : Memref sig .tc .vmem S1024x32 .f32) (harg1 : arg1.IsWhole)
  (arg2 : Memref sig .tc .vmem S2x256x8192 .f32) (harg2 : arg2.IsWhole) (arg3 : Memref sig .tc .vmem S1024x32 .f32) (harg3 : arg3.IsWhole)
  (arg4 : Memref sig .tc .vmem S1024x32 .f32) (harg4 : arg4.IsWhole) (arg5 : DmaSems sig S2) (arg6 : DmaSems sig S_) (arg7 : DmaSems sig S_)
  (t : Fin k0_t1_loop.trips) (v42 v53 : BitVec 32) {α : Type} {ld : ℕ → Vec F S1x256x128 .f32}
  {S : Finset arg2.view.ty.Idx} {f : arg2.view.ty.Contents (Elt F)} (H : Holds arg2 t S f ld)

include H in
theorem part2 {kk : (Σ' (_ : FVec F S256x128 .f32) (_ : FVec F S256x128 .f32) (_ : FVec F S256x128 .f32) (_ : FVec F S256x128 .f32) (_ : FVec F S256x128 .f32) (_ : FVec F S256x128 .f32), Vec F S1x256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 5 0, reg ld 5 1, reg ld 5 2, reg ld 5 3, reg ld 5 4, reg ld 5 5, ld 5⟩) Q)
        -∗ Wp c (k0_part2 arg0 harg0 arg1 harg1 arg2 harg2 arg3 harg3 arg4 harg4 arg5 arg6 arg7 t v42 (reg ld 1 1) (reg ld 1 2) (reg ld 1 3) (reg ld 1 4) (reg ld 1 5) (reg ld 2 0) (rest ld 1 1) (reg ld 2 1) >>= kk) Q) := by
  rw [k0_part2_eq_skeleton]; unfold k0_part2_skel
  simp only [Prog.lift, Prog.bind_op, Prog.bind_ret, Prog.pure_eq_ret]
  iintro HB K
  iapply (wp_ld c H 2 (by decide) (k0_off9_eq t)) $$ HB; iintro HB
  iapply (wp_ld c H 3 (by decide) (k0_off10_eq t)) $$ HB; iintro HB
  iapply (wp_ld c H 4 (by decide) (k0_off11_eq t)) $$ HB; iintro HB
  iapply (wp_ld c H 5 (by decide) (k0_off12_eq t)) $$ HB; iintro HB
  iapply K $$ HB

include H in
theorem part3 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 9 0, reg ld 9 1, reg ld 9 2, reg ld 9 3, reg ld 9 4, reg ld 9 5⟩) Q)
        -∗ Wp c (k0_part3 arg0 harg0 arg1 harg1 arg2 harg2 arg3 harg3 arg4 harg4 arg5 arg6 arg7 t v42 (reg ld 5 0) (reg ld 5 1) (reg ld 5 2) (reg ld 5 3) (reg ld 5 4) (reg ld 5 5) (ld 5) >>= kk) Q) := by
  rw [k0_part3_eq_skeleton]; unfold k0_part3_skel
  simp only [Prog.lift, Prog.bind_op, Prog.bind_ret, Prog.pure_eq_ret]
  iintro HB K
  iapply (wp_ld c H 6 (by decide) (k0_off13_eq t)) $$ HB; iintro HB
  iapply (wp_ld c H 7 (by decide) (k0_off14_eq t)) $$ HB; iintro HB
  iapply (wp_ld c H 8 (by decide) (k0_off15_eq t)) $$ HB; iintro HB
  iapply K $$ HB

include H in
theorem part4 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 12 3, reg ld 12 4, reg ld 12 5, reg ld 13 0, reg ld 13 1, reg ld 13 2, rest ld 12 3, reg ld 13 3⟩) Q)
        -∗ Wp c (k0_part4 arg0 harg0 arg1 harg1 arg2 harg2 arg3 harg3 arg4 harg4 arg5 arg6 arg7 t v42 (reg ld 9 0) (reg ld 9 1) (reg ld 9 2) (reg ld 9 3) (reg ld 9 4) (reg ld 9 5) >>= kk) Q) := by
  rw [k0_part4_eq_skeleton]; unfold k0_part4_skel
  simp only [Prog.lift, Prog.bind_op, Prog.bind_ret, Prog.pure_eq_ret]
  iintro HB K
  iapply (wp_ld c H 9 (by decide) (k0_off16_eq t)) $$ HB; iintro HB
  iapply (wp_ld c H 10 (by decide) (k0_off17_eq t)) $$ HB; iintro HB
  iapply (wp_ld c H 11 (by decide) (k0_off18_eq t)) $$ HB; iintro HB
  iapply (wp_ld c H 12 (by decide) (k0_off19_eq t)) $$ HB; iintro HB
  iapply K $$ HB

include H in
theorem part5 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 16 1, reg ld 16 2, reg ld 16 3, reg ld 16 4, reg ld 16 5, reg ld 17 0, rest ld 16 1, reg ld 17 1⟩) Q)
        -∗ Wp c (k0_part5 arg0 harg0 arg1 harg1 arg2 harg2 arg3 harg3 arg4 harg4 arg5 arg6 arg7 t v42 (reg ld 12 3) (reg ld 12 4) (reg ld 12 5) (reg ld 13 0) (reg ld 13 1) (reg ld 13 2) (rest ld 12 3) (reg ld 13 3) >>= kk) Q) := by
  rw [k0_part5_eq_skeleton]; unfold k0_part5_skel
  simp only [Prog.lift, Prog.bind_op, Prog.bind_ret, Prog.pure_eq_ret]
  iintro HB K
  iapply (wp_ld c H 13 (by decide) (k0_off20_eq t)) $$ HB; iintro HB
  iapply (wp_ld c H 14 (by decide) (k0_off21_eq t)) $$ HB; iintro HB
  iapply (wp_ld c H 15 (by decide) (k0_off22_eq t)) $$ HB; iintro HB
  iapply (wp_ld c H 16 (by decide) (k0_off23_eq t)) $$ HB; iintro HB
  iapply K $$ HB

include H in
theorem part6 {kk : (Σ' (_ : FVec F S256x128 .f32) (_ : FVec F S256x128 .f32) (_ : FVec F S256x128 .f32) (_ : FVec F S256x128 .f32) (_ : FVec F S256x128 .f32) (_ : FVec F S256x128 .f32), Vec F S1x256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 20 0, reg ld 20 1, reg ld 20 2, reg ld 20 3, reg ld 20 4, reg ld 20 5, ld 20⟩) Q)
        -∗ Wp c (k0_part6 arg0 harg0 arg1 harg1 arg2 harg2 arg3 harg3 arg4 harg4 arg5 arg6 arg7 t v42 (reg ld 16 1) (reg ld 16 2) (reg ld 16 3) (reg ld 16 4) (reg ld 16 5) (reg ld 17 0) (rest ld 16 1) (reg ld 17 1) >>= kk) Q) := by
  rw [k0_part6_eq_skeleton]; unfold k0_part6_skel
  simp only [Prog.lift, Prog.bind_op, Prog.bind_ret, Prog.pure_eq_ret]
  iintro HB K
  iapply (wp_ld c H 17 (by decide) (k0_off24_eq t)) $$ HB; iintro HB
  iapply (wp_ld c H 18 (by decide) (k0_off25_eq t)) $$ HB; iintro HB
  iapply (wp_ld c H 19 (by decide) (k0_off26_eq t)) $$ HB; iintro HB
  iapply (wp_ld c H 20 (by decide) (k0_off27_eq t)) $$ HB; iintro HB
  iapply K $$ HB

include H in
theorem part7 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 24 0, reg ld 24 1, reg ld 24 2, reg ld 24 3, reg ld 24 4, reg ld 24 5⟩) Q)
        -∗ Wp c (k0_part7 arg0 harg0 arg1 harg1 arg2 harg2 arg3 harg3 arg4 harg4 arg5 arg6 arg7 t v42 (reg ld 20 0) (reg ld 20 1) (reg ld 20 2) (reg ld 20 3) (reg ld 20 4) (reg ld 20 5) (ld 20) >>= kk) Q) := by
  rw [k0_part7_eq_skeleton]; unfold k0_part7_skel
  simp only [Prog.lift, Prog.bind_op, Prog.bind_ret, Prog.pure_eq_ret]
  iintro HB K
  iapply (wp_ld c H 21 (by decide) (k0_off28_eq t)) $$ HB; iintro HB
  iapply (wp_ld c H 22 (by decide) (k0_off29_eq t)) $$ HB; iintro HB
  iapply (wp_ld c H 23 (by decide) (k0_off30_eq t)) $$ HB; iintro HB
  iapply K $$ HB

include H in
theorem part8 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 27 3, reg ld 27 4, reg ld 27 5, reg ld 28 0, reg ld 28 1, reg ld 28 2, rest ld 27 3, reg ld 28 3⟩) Q)
        -∗ Wp c (k0_part8 arg0 harg0 arg1 harg1 arg2 harg2 arg3 harg3 arg4 harg4 arg5 arg6 arg7 t v42 (reg ld 24 0) (reg ld 24 1) (reg ld 24 2) (reg ld 24 3) (reg ld 24 4) (reg ld 24 5) >>= kk) Q) := by
  rw [k0_part8_eq_skeleton]; unfold k0_part8_skel
  simp only [Prog.lift, Prog.bind_op, Prog.bind_ret, Prog.pure_eq_ret]
  iintro HB K
  iapply (wp_ld c H 24 (by decide) (k0_off31_eq t)) $$ HB; iintro HB
  iapply (wp_ld c H 25 (by decide) (k0_off32_eq t)) $$ HB; iintro HB
  iapply (wp_ld c H 26 (by decide) (k0_off33_eq t)) $$ HB; iintro HB
  iapply (wp_ld c H 27 (by decide) (k0_off34_eq t)) $$ HB; iintro HB
  iapply K $$ HB

include H in
theorem part9 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 31 1, reg ld 31 2, reg ld 31 3, reg ld 31 4, reg ld 31 5, reg ld 32 0, rest ld 31 1, reg ld 32 1⟩) Q)
        -∗ Wp c (k0_part9 arg0 harg0 arg1 harg1 arg2 harg2 arg3 harg3 arg4 harg4 arg5 arg6 arg7 t v42 (reg ld 27 3) (reg ld 27 4) (reg ld 27 5) (reg ld 28 0) (reg ld 28 1) (reg ld 28 2) (rest ld 27 3) (reg ld 28 3) >>= kk) Q) := by
  rw [k0_part9_eq_skeleton]; unfold k0_part9_skel
  simp only [Prog.lift, Prog.bind_op, Prog.bind_ret, Prog.pure_eq_ret]
  iintro HB K
  iapply (wp_ld c H 28 (by decide) (k0_off35_eq t)) $$ HB; iintro HB
  iapply (wp_ld c H 29 (by decide) (k0_off36_eq t)) $$ HB; iintro HB
  iapply (wp_ld c H 30 (by decide) (k0_off37_eq t)) $$ HB; iintro HB
  iapply (wp_ld c H 31 (by decide) (k0_off38_eq t)) $$ HB; iintro HB
  iapply K $$ HB

include H in
theorem part10 {kk : (Σ' (_ : FVec F S256x128 .f32) (_ : FVec F S256x128 .f32) (_ : FVec F S256x128 .f32) (_ : FVec F S256x128 .f32) (_ : FVec F S256x128 .f32) (_ : FVec F S256x128 .f32), Vec F S1x256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 35 0, reg ld 35 1, reg ld 35 2, reg ld 35 3, reg ld 35 4, reg ld 35 5, ld 35⟩) Q)
        -∗ Wp c (k0_part10 arg0 harg0 arg1 harg1 arg2 harg2 arg3 harg3 arg4 harg4 arg5 arg6 arg7 t v42 (reg ld 31 1) (reg ld 31 2) (reg ld 31 3) (reg ld 31 4) (reg ld 31 5) (reg ld 32 0) (rest ld 31 1) (reg ld 32 1) >>= kk) Q) := by
  rw [k0_part10_eq_skeleton]; unfold k0_part10_skel
  simp only [Prog.lift, Prog.bind_op, Prog.bind_ret, Prog.pure_eq_ret]
  iintro HB K
  iapply (wp_ld c H 32 (by decide) (k0_off39_eq t)) $$ HB; iintro HB
  iapply (wp_ld c H 33 (by decide) (k0_off40_eq t)) $$ HB; iintro HB
  iapply (wp_ld c H 34 (by decide) (k0_off41_eq t)) $$ HB; iintro HB
  iapply (wp_ld c H 35 (by decide) (k0_off42_eq t)) $$ HB; iintro HB
  iapply K $$ HB

include H in
theorem part11 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 39 0, reg ld 39 1, reg ld 39 2, reg ld 39 3, reg ld 39 4, reg ld 39 5⟩) Q)
        -∗ Wp c (k0_part11 arg0 harg0 arg1 harg1 arg2 harg2 arg3 harg3 arg4 harg4 arg5 arg6 arg7 t v42 (reg ld 35 0) (reg ld 35 1) (reg ld 35 2) (reg ld 35 3) (reg ld 35 4) (reg ld 35 5) (ld 35) >>= kk) Q) := by
  rw [k0_part11_eq_skeleton]; unfold k0_part11_skel
  simp only [Prog.lift, Prog.bind_op, Prog.bind_ret, Prog.pure_eq_ret]
  iintro HB K
  iapply (wp_ld c H 36 (by decide) (k0_off43_eq t)) $$ HB; iintro HB
  iapply (wp_ld c H 37 (by decide) (k0_off44_eq t)) $$ HB; iintro HB
  iapply (wp_ld c H 38 (by decide) (k0_off45_eq t)) $$ HB; iintro HB
  iapply K $$ HB

include H in
theorem part12 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 42 3, reg ld 42 4, reg ld 42 5, reg ld 43 0, reg ld 43 1, reg ld 43 2, rest ld 42 3, reg ld 43 3⟩) Q)
        -∗ Wp c (k0_part12 arg0 harg0 arg1 harg1 arg2 harg2 arg3 harg3 arg4 harg4 arg5 arg6 arg7 t v42 (reg ld 39 0) (reg ld 39 1) (reg ld 39 2) (reg ld 39 3) (reg ld 39 4) (reg ld 39 5) >>= kk) Q) := by
  rw [k0_part12_eq_skeleton]; unfold k0_part12_skel
  simp only [Prog.lift, Prog.bind_op, Prog.bind_ret, Prog.pure_eq_ret]
  iintro HB K
  iapply (wp_ld c H 39 (by decide) (k0_off46_eq t)) $$ HB; iintro HB
  iapply (wp_ld c H 40 (by decide) (k0_off47_eq t)) $$ HB; iintro HB
  iapply (wp_ld c H 41 (by decide) (k0_off48_eq t)) $$ HB; iintro HB
  iapply (wp_ld c H 42 (by decide) (k0_off49_eq t)) $$ HB; iintro HB
  iapply K $$ HB

include H in
theorem part13 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 46 1, reg ld 46 2, reg ld 46 3, reg ld 46 4, reg ld 46 5, reg ld 47 0, rest ld 46 1, reg ld 47 1⟩) Q)
        -∗ Wp c (k0_part13 arg0 harg0 arg1 harg1 arg2 harg2 arg3 harg3 arg4 harg4 arg5 arg6 arg7 t v42 (reg ld 42 3) (reg ld 42 4) (reg ld 42 5) (reg ld 43 0) (reg ld 43 1) (reg ld 43 2) (rest ld 42 3) (reg ld 43 3) >>= kk) Q) := by
  rw [k0_part13_eq_skeleton]; unfold k0_part13_skel
  simp only [Prog.lift, Prog.bind_op, Prog.bind_ret, Prog.pure_eq_ret]
  iintro HB K
  iapply (wp_ld c H 43 (by decide) (k0_off50_eq t)) $$ HB; iintro HB
  iapply (wp_ld c H 44 (by decide) (k0_off51_eq t)) $$ HB; iintro HB
  iapply (wp_ld c H 45 (by decide) (k0_off52_eq t)) $$ HB; iintro HB
  iapply (wp_ld c H 46 (by decide) (k0_off53_eq t)) $$ HB; iintro HB
  iapply K $$ HB

include H in
theorem part14 {kk : (Σ' (_ : FVec F S256x128 .f32) (_ : FVec F S256x128 .f32) (_ : FVec F S256x128 .f32) (_ : FVec F S256x128 .f32) (_ : FVec F S256x128 .f32) (_ : FVec F S256x128 .f32), Vec F S1x256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 50 0, reg ld 50 1, reg ld 50 2, reg ld 50 3, reg ld 50 4, reg ld 50 5, ld 50⟩) Q)
        -∗ Wp c (k0_part14 arg0 harg0 arg1 harg1 arg2 harg2 arg3 harg3 arg4 harg4 arg5 arg6 arg7 t v42 (reg ld 46 1) (reg ld 46 2) (reg ld 46 3) (reg ld 46 4) (reg ld 46 5) (reg ld 47 0) (rest ld 46 1) (reg ld 47 1) >>= kk) Q) := by
  rw [k0_part14_eq_skeleton]; unfold k0_part14_skel
  simp only [Prog.lift, Prog.bind_op, Prog.bind_ret, Prog.pure_eq_ret]
  iintro HB K
  iapply (wp_ld c H 47 (by decide) (k0_off54_eq t)) $$ HB; iintro HB
  iapply (wp_ld c H 48 (by decide) (k0_off55_eq t)) $$ HB; iintro HB
  iapply (wp_ld c H 49 (by decide) (k0_off56_eq t)) $$ HB; iintro HB
  iapply (wp_ld c H 50 (by decide) (k0_off57_eq t)) $$ HB; iintro HB
  iapply K $$ HB

include H in
theorem part15 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 54 0, reg ld 54 1, reg ld 54 2, reg ld 54 3, reg ld 54 4, reg ld 54 5⟩) Q)
        -∗ Wp c (k0_part15 arg0 harg0 arg1 harg1 arg2 harg2 arg3 harg3 arg4 harg4 arg5 arg6 arg7 t v42 (reg ld 50 0) (reg ld 50 1) (reg ld 50 2) (reg ld 50 3) (reg ld 50 4) (reg ld 50 5) (ld 50) >>= kk) Q) := by
  rw [k0_part15_eq_skeleton]; unfold k0_part15_skel
  simp only [Prog.lift, Prog.bind_op, Prog.bind_ret, Prog.pure_eq_ret]
  iintro HB K
  iapply (wp_ld c H 51 (by decide) (k0_off58_eq t)) $$ HB; iintro HB
  iapply (wp_ld c H 52 (by decide) (k0_off59_eq t)) $$ HB; iintro HB
  iapply (wp_ld c H 53 (by decide) (k0_off60_eq t)) $$ HB; iintro HB
  iapply K $$ HB

include H in
theorem part16 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 57 3, reg ld 57 4, reg ld 57 5, reg ld 58 0, reg ld 58 1, reg ld 58 2, rest ld 57 3, reg ld 58 3⟩) Q)
        -∗ Wp c (k0_part16 arg0 harg0 arg1 harg1 arg2 harg2 arg3 harg3 arg4 harg4 arg5 arg6 arg7 t v42 (reg ld 54 0) (reg ld 54 1) (reg ld 54 2) (reg ld 54 3) (reg ld 54 4) (reg ld 54 5) >>= kk) Q) := by
  rw [k0_part16_eq_skeleton]; unfold k0_part16_skel
  simp only [Prog.lift, Prog.bind_op, Prog.bind_ret, Prog.pure_eq_ret]
  iintro HB K
  iapply (wp_ld c H 54 (by decide) (k0_off61_eq t)) $$ HB; iintro HB
  iapply (wp_ld c H 55 (by decide) (k0_off62_eq t)) $$ HB; iintro HB
  iapply (wp_ld c H 56 (by decide) (k0_off63_eq t)) $$ HB; iintro HB
  iapply (wp_ld c H 57 (by decide) (k0_off64_eq t)) $$ HB; iintro HB
  iapply K $$ HB

include H in
theorem part17 {kk : (Σ' (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    (arg2.view.loc (c : Thread nD τ) ↦[S]{fullShare} f)
      ⊢ iprop(((arg2.view.loc (c : Thread nD τ) ↦[S]{fullShare} f) -∗ Wp c (kk ⟨reg ld 61 1, reg ld 61 2, reg ld 61 3, reg ld 61 4, reg ld 61 5, reg ld 62 0, rest ld 61 1, reg ld 62 1⟩) Q)
        -∗ Wp c (k0_part17 arg0 harg0 arg1 harg1 arg2 harg2 arg3 harg3 arg4 harg4 arg5 arg6 arg7 t v42 (reg ld 57 3) (reg ld 57 4) (reg ld 57 5) (reg ld 58 0) (reg ld 58 1) (reg ld 58 2) (rest ld 57 3) (reg ld 58 3) >>= kk) Q) := by
  rw [k0_part17_eq_skeleton]; unfold k0_part17_skel
  simp only [Prog.lift, Prog.bind_op, Prog.bind_ret, Prog.pure_eq_ret]
  iintro HB K
  iapply (wp_ld c H 58 (by decide) (k0_off65_eq t)) $$ HB; iintro HB
  iapply (wp_ld c H 59 (by decide) (k0_off66_eq t)) $$ HB; iintro HB
  iapply (wp_ld c H 60 (by decide) (k0_off67_eq t)) $$ HB; iintro HB
  iapply (wp_ld c H 61 (by decide) (k0_off68_eq t)) $$ HB; iintro HB
  iapply K $$ HB

end Cert.KernelIdeal.Top
-- ==== Proof.Emit.lean ====
/-
The second half of a trip of the kernel's first loop, part by part: 32 times the greatest element of the lanes' frontiers
is stored as the next column, and the lanes that held it move up by one.
-/
module

public import proofs.«01_k».proof.Proof.Steps

@[expose] public section

set_option maxRecDepth 16384

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (c : Dev nD) (arg0 : Memref sig .tc .hbm S1024x8192 .f32) (harg0 : arg0.IsWhole) (arg1 : Memref sig .tc .vmem S1024x32 .f32) (harg1 : arg1.IsWhole)
  (arg2 : Memref sig .tc .vmem S2x256x8192 .f32) (harg2 : arg2.IsWhole) (arg3 : Memref sig .tc .vmem S1024x32 .f32) (harg3 : arg3.IsWhole)
  (arg4 : Memref sig .tc .vmem S1024x32 .f32) (harg4 : arg4.IsWhole) (arg5 : DmaSems sig S2) (arg6 : DmaSems sig S_) (arg7 : DmaSems sig S_)
  (t : Fin k0_t1_loop.trips) (v42 v53 : BitVec 32) {α : Type} {ld : ℕ → Vec F S1x256x128 .f32}
  {S : Finset arg2.view.ty.Idx} {f : arg2.view.ty.Contents (Elt F)} (H : Holds arg2 t S f ld)
  {G : Vec F S1024x32 .f32} (HG : ColsOf G t (col ld))

include H HG in
theorem part18 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    iprop((arg2.view.loc (c : Thread nD τ) ↦[S]{fullShare} f) ∗ Cols c arg3 G t 0)
      ⊢ iprop(((arg2.view.loc (c : Thread nD τ) ↦[S]{fullShare} f) -∗ Cols c arg3 G t 1 -∗ Wp c (kk ⟨left ld 1 0, left ld 1 1, left ld 1 2, left ld 1 3, left ld 1 4, left ld 1 5⟩) Q)
        -∗ Wp c (k0_part18 arg0 harg0 arg1 harg1 arg2 harg2 arg3 harg3 arg4 harg4 arg5 arg6 arg7 t v42 v53 (reg ld 61 1) (reg ld 61 2) (reg ld 61 3) (reg ld 61 4) (reg ld 61 5) (reg ld 62 0) (rest ld 61 1) (reg ld 62 1) >>= kk) Q) := by
  rw [k0_part18_eq_skeleton]; unfold k0_part18_skel
  simp only [Prog.lift, Prog.bind_op, Prog.bind_ret, Prog.pure_eq_ret]
  iintro ⟨HB, HC⟩ K
  iapply (wp_ld c H 62 (by decide) (k0_off69_eq t)) $$ HB; iintro HB
  iapply (wp_ld c H 63 (by decide) (k0_off70_eq t)) $$ HB; iintro HB
  iapply (wp_look c) $$ HC; iintro %w71 HC
  iapply (wp_col c HG 0 (k0_off71_eq t)) $$ HC; iintro HC
  iapply K $$ HB HC

include HG in
theorem part19 {kk : (Σ' (_ : FVec F S256x128 .f32) (_ : FVec F S256x128 .f32) (_ : FVec F S256x128 .f32) (_ : FVec F S256x128 .f32) (_ : FVec F S256x128 .f32) (_ : FVec F S256x128 .f32), FVec F S256x1 .f32) → Prog (TpuEff nD τ sig (Elt F) Λ₀ .tc) α} {Q : α → sProp 𝕄} :
    Cols c arg3 G t 1
      ⊢ iprop((Cols c arg3 G t 4 -∗ Wp c (kk ⟨left ld 4 0, left ld 4 1, left ld 4 2, left ld 4 3, left ld 4 4, left ld 4 5, top (left ld 4 0)⟩) Q)
        -∗ Wp c (k0_part19 arg0 harg0 arg1 harg1 arg2 harg2 arg3 harg3 arg4 harg4 arg5 arg6 arg7 t v53 (left ld 1 0) (left ld 1 1) (left ld 1 2) (left ld 1 3) (left ld 1 4) (left ld 1 5) >>= kk) Q) := by
  rw [k0_part19_eq_skeleton]; unfold k0_part19_skel
  simp only [Prog.lift, Prog.bind_op, Prog.bind_ret, Prog.pure_eq_ret]
  iintro HC K
  iapply (wp_look c) $$ HC; iintro %w72 HC
  iapply (wp_col c HG 1 (k0_off72_eq t)) $$ HC; iintro HC
  iapply (wp_look c) $$ HC; iintro %w73 HC
  iapply (wp_col c HG 2 (k0_off73_eq t)) $$ HC; iintro HC
  iapply (wp_look c) $$ HC; iintro %w74 HC
  iapply (wp_col c HG 3 (k0_off74_eq t)) $$ HC; iintro HC
  iapply K $$ HC

include HG in
theorem part20 {kk : (Σ' (_ : FVec F S256x128 .f32) (_ : FVec F S256x128 .f32) (_ : FVec F S256x128 .f32) (_ : FVec F S256x128 .f32) (_ : FVec F S256x128 .f32) (_ : FVec F S256x128 .f32), FVec F S256x1 .f32) → Prog (TpuEff nD τ sig (Elt F) Λ₀ .tc) α} {Q : α → sProp 𝕄} :
    Cols c arg3 G t 4
      ⊢ iprop((Cols c arg3 G t 7 -∗ Wp c (kk ⟨left ld 7 0, left ld 7 1, left ld 7 2, left ld 7 3, left ld 7 4, left ld 7 5, top (left ld 7 0)⟩) Q)
        -∗ Wp c (k0_part20 arg0 harg0 arg1 harg1 arg2 harg2 arg3 harg3 arg4 harg4 arg5 arg6 arg7 t v53 (left ld 4 0) (left ld 4 1) (left ld 4 2) (left ld 4 3) (left ld 4 4) (left ld 4 5) (top (left ld 4 0)) >>= kk) Q) := by
  rw [k0_part20_eq_skeleton]; unfold k0_part20_skel
  simp only [Prog.lift, Prog.bind_op, Prog.bind_ret, Prog.pure_eq_ret]
  iintro HC K
  iapply (wp_look c) $$ HC; iintro %w75 HC
  iapply (wp_col c HG 4 (k0_off75_eq t)) $$ HC; iintro HC
  iapply (wp_look c) $$ HC; iintro %w76 HC
  iapply (wp_col c HG 5 (k0_off76_eq t)) $$ HC; iintro HC
  iapply (wp_look c) $$ HC; iintro %w77 HC
  iapply (wp_col c HG 6 (k0_off77_eq t)) $$ HC; iintro HC
  iapply (wp_look c) $$ HC; iintro %w78 HC
  iapply K $$ HC

include HG in
theorem part21 {kk : (Σ' (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    Cols c arg3 G t 7
      ⊢ iprop((Cols c arg3 G t 11 -∗ Wp c (kk ⟨left ld 10 0, left ld 10 1, left ld 10 2, left ld 10 3, left ld 10 4, left ld 10 5, broadcastTo S256x128 (top (left ld 10 0)) broadcasts_S256x1_S256x128⟩) Q)
        -∗ Wp c (k0_part21 arg0 harg0 arg1 harg1 arg2 harg2 arg3 harg3 arg4 harg4 arg5 arg6 arg7 t v53 (left ld 7 0) (left ld 7 1) (left ld 7 2) (left ld 7 3) (left ld 7 4) (left ld 7 5) (top (left ld 7 0)) >>= kk) Q) := by
  rw [k0_part21_eq_skeleton]; unfold k0_part21_skel
  simp only [Prog.lift, Prog.bind_op, Prog.bind_ret, Prog.pure_eq_ret]
  iintro HC K
  iapply (wp_col c HG 7 (k0_off78_eq t)) $$ HC; iintro HC
  iapply (wp_look c) $$ HC; iintro %w79 HC
  iapply (wp_col c HG 8 (k0_off79_eq t)) $$ HC; iintro HC
  iapply (wp_look c) $$ HC; iintro %w80 HC
  iapply (wp_col c HG 9 (k0_off80_eq t)) $$ HC; iintro HC
  iapply (wp_look c) $$ HC; iintro %w81 HC
  iapply (wp_col c HG 10 (k0_off81_eq t)) $$ HC; iintro HC
  iapply K $$ HC

include HG in
theorem part22 {kk : (Σ' (_ : FVec F S256x128 .f32) (_ : FVec F S256x128 .f32) (_ : FVec F S256x128 .f32) (_ : FVec F S256x128 .f32) (_ : IVec S256x128 1) (_ : FVec F S256x128 .f32), FVec F S256x128 .f32) → Prog (TpuEff nD τ sig (Elt F) Λ₀ .tc) α} {Q : α → sProp 𝕄} :
    Cols c arg3 G t 11
      ⊢ iprop((Cols c arg3 G t 14 -∗ Wp c (kk ⟨left ld 13 2, left ld 13 3, left ld 13 4, left ld 13 5, hit (left ld 13 0), left ld 14 0, left ld 14 1⟩) Q)
        -∗ Wp c (k0_part22 arg0 harg0 arg1 harg1 arg2 harg2 arg3 harg3 arg4 harg4 arg5 arg6 arg7 t v53 (left ld 10 0) (left ld 10 1) (left ld 10 2) (left ld 10 3) (left ld 10 4) (left ld 10 5) (broadcastTo S256x128 (top (left ld 10 0)) broadcasts_S256x1_S256x128) >>= kk) Q) := by
  rw [k0_part22_eq_skeleton]; unfold k0_part22_skel
  simp only [Prog.lift, Prog.bind_op, Prog.bind_ret, Prog.pure_eq_ret]
  iintro HC K
  iapply (wp_look c) $$ HC; iintro %w82 HC
  iapply (wp_col c HG 11 (k0_off82_eq t)) $$ HC; iintro HC
  iapply (wp_look c) $$ HC; iintro %w83 HC
  iapply (wp_col c HG 12 (k0_off83_eq t)) $$ HC; iintro HC
  iapply (wp_look c) $$ HC; iintro %w84 HC
  iapply (wp_col c HG 13 (k0_off84_eq t)) $$ HC; iintro HC
  iapply K $$ HC

include HG in
theorem part23 {kk : (Σ' (_ : FVec F S256x128 .f32) (_ : IVec S256x128 1) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    Cols c arg3 G t 14
      ⊢ iprop((Cols c arg3 G t 17 -∗ Wp c (kk ⟨left ld 16 5, hit (left ld 16 0), left ld 17 0, left ld 17 1, left ld 17 2, left ld 17 3, left ld 17 4⟩) Q)
        -∗ Wp c (k0_part23 arg0 harg0 arg1 harg1 arg2 harg2 arg3 harg3 arg4 harg4 arg5 arg6 arg7 t v53 (left ld 13 2) (left ld 13 3) (left ld 13 4) (left ld 13 5) (hit (left ld 13 0)) (left ld 14 0) (left ld 14 1) >>= kk) Q) := by
  rw [k0_part23_eq_skeleton]; unfold k0_part23_skel
  simp only [Prog.lift, Prog.bind_op, Prog.bind_ret, Prog.pure_eq_ret]
  iintro HC K
  iapply (wp_look c) $$ HC; iintro %w85 HC
  iapply (wp_col c HG 14 (k0_off85_eq t)) $$ HC; iintro HC
  iapply (wp_look c) $$ HC; iintro %w86 HC
  iapply (wp_col c HG 15 (k0_off86_eq t)) $$ HC; iintro HC
  iapply (wp_look c) $$ HC; iintro %w87 HC
  iapply (wp_col c HG 16 (k0_off87_eq t)) $$ HC; iintro HC
  iapply K $$ HC

include HG in
theorem part24 {kk : (Σ' (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    Cols c arg3 G t 17
      ⊢ iprop((Cols c arg3 G t 20 -∗ Wp c (kk ⟨left ld 20 0, left ld 20 1, left ld 20 2, left ld 20 3, left ld 20 4, left ld 20 5⟩) Q)
        -∗ Wp c (k0_part24 arg0 harg0 arg1 harg1 arg2 harg2 arg3 harg3 arg4 harg4 arg5 arg6 arg7 t v53 (left ld 16 5) (hit (left ld 16 0)) (left ld 17 0) (left ld 17 1) (left ld 17 2) (left ld 17 3) (left ld 17 4) >>= kk) Q) := by
  rw [k0_part24_eq_skeleton]; unfold k0_part24_skel
  simp only [Prog.lift, Prog.bind_op, Prog.bind_ret, Prog.pure_eq_ret]
  iintro HC K
  iapply (wp_look c) $$ HC; iintro %w88 HC
  iapply (wp_col c HG 17 (k0_off88_eq t)) $$ HC; iintro HC
  iapply (wp_look c) $$ HC; iintro %w89 HC
  iapply (wp_col c HG 18 (k0_off89_eq t)) $$ HC; iintro HC
  iapply (wp_look c) $$ HC; iintro %w90 HC
  iapply (wp_col c HG 19 (k0_off90_eq t)) $$ HC; iintro HC
  iapply K $$ HC

include HG in
theorem part25 {kk : (Σ' (_ : FVec F S256x128 .f32) (_ : FVec F S256x128 .f32) (_ : FVec F S256x128 .f32) (_ : FVec F S256x128 .f32) (_ : FVec F S256x128 .f32) (_ : FVec F S256x128 .f32), FVec F S256x1 .f32) → Prog (TpuEff nD τ sig (Elt F) Λ₀ .tc) α} {Q : α → sProp 𝕄} :
    Cols c arg3 G t 20
      ⊢ iprop((Cols c arg3 G t 23 -∗ Wp c (kk ⟨left ld 23 0, left ld 23 1, left ld 23 2, left ld 23 3, left ld 23 4, left ld 23 5, top (left ld 23 0)⟩) Q)
        -∗ Wp c (k0_part25 arg0 harg0 arg1 harg1 arg2 harg2 arg3 harg3 arg4 harg4 arg5 arg6 arg7 t v53 (left ld 20 0) (left ld 20 1) (left ld 20 2) (left ld 20 3) (left ld 20 4) (left ld 20 5) >>= kk) Q) := by
  rw [k0_part25_eq_skeleton]; unfold k0_part25_skel
  simp only [Prog.lift, Prog.bind_op, Prog.bind_ret, Prog.pure_eq_ret]
  iintro HC K
  iapply (wp_look c) $$ HC; iintro %w91 HC
  iapply (wp_col c HG 20 (k0_off91_eq t)) $$ HC; iintro HC
  iapply (wp_look c) $$ HC; iintro %w92 HC
  iapply (wp_col c HG 21 (k0_off92_eq t)) $$ HC; iintro HC
  iapply (wp_look c) $$ HC; iintro %w93 HC
  iapply (wp_col c HG 22 (k0_off93_eq t)) $$ HC; iintro HC
  iapply K $$ HC

include HG in
theorem part26 {kk : (Σ' (_ : FVec F S256x128 .f32) (_ : FVec F S256x128 .f32) (_ : FVec F S256x128 .f32) (_ : FVec F S256x128 .f32) (_ : FVec F S256x128 .f32) (_ : FVec F S256x128 .f32) (_ : FVec F S256x1 .f32), Vec F S256x1 .f32) → Prog (TpuEff nD τ sig (Elt F) Λ₀ .tc) α} {Q : α → sProp 𝕄} :
    Cols c arg3 G t 23
      ⊢ iprop((∀ w, Cols c arg3 G t 26 -∗ Wp c (kk ⟨left ld 26 0, left ld 26 1, left ld 26 2, left ld 26 3, left ld 26 4, left ld 26 5, top (left ld 26 0), w⟩) Q)
        -∗ Wp c (k0_part26 arg0 harg0 arg1 harg1 arg2 harg2 arg3 harg3 arg4 harg4 arg5 arg6 arg7 t v53 (left ld 23 0) (left ld 23 1) (left ld 23 2) (left ld 23 3) (left ld 23 4) (left ld 23 5) (top (left ld 23 0)) >>= kk) Q) := by
  rw [k0_part26_eq_skeleton]; unfold k0_part26_skel
  simp only [Prog.lift, Prog.bind_op, Prog.bind_ret, Prog.pure_eq_ret]
  iintro HC K
  iapply (wp_look c) $$ HC; iintro %w94 HC
  iapply (wp_col c HG 23 (k0_off94_eq t)) $$ HC; iintro HC
  iapply (wp_look c) $$ HC; iintro %w95 HC
  iapply (wp_col c HG 24 (k0_off95_eq t)) $$ HC; iintro HC
  iapply (wp_look c) $$ HC; iintro %w96 HC
  iapply (wp_col c HG 25 (k0_off96_eq t)) $$ HC; iintro HC
  iapply (wp_look c) $$ HC; iintro %w97 HC
  iapply K $$ %w97 HC

include HG in
theorem part27 {w : Vec F S256x1 .f32} {kk : (Σ' (_ : FVec F S256x128 .f32) (_ : FVec F S256x128 .f32) (_ : FVec F S256x1 .f32), FVec F S256x1 .f32) → Prog (TpuEff nD τ sig (Elt F) Λ₀ .tc) α} {Q : α → sProp 𝕄} :
    Cols c arg3 G t 26
      ⊢ iprop((Cols c arg3 G t 30 -∗ Wp c (kk ⟨left ld 30 0, left ld 30 1, top (left ld 30 0), col ld 30⟩) Q)
        -∗ Wp c (k0_part27 arg0 harg0 arg1 harg1 arg2 harg2 arg3 harg3 arg4 harg4 arg5 arg6 arg7 t v53 (left ld 26 0) (left ld 26 1) (left ld 26 2) (left ld 26 3) (left ld 26 4) (left ld 26 5) (top (left ld 26 0)) w >>= kk) Q) := by
  rw [k0_part27_eq_skeleton]; unfold k0_part27_skel
  simp only [Prog.lift, Prog.bind_op, Prog.bind_ret, Prog.pure_eq_ret]
  iintro HC K
  iapply (wp_col c HG 26 (k0_off97_eq t)) $$ HC; iintro HC
  iapply (wp_look c) $$ HC; iintro %w98 HC
  iapply (wp_col c HG 27 (k0_off98_eq t)) $$ HC; iintro HC
  iapply (wp_look c) $$ HC; iintro %w99 HC
  iapply (wp_col c HG 28 (k0_off99_eq t)) $$ HC; iintro HC
  iapply (wp_look c) $$ HC; iintro %w100 HC
  iapply (wp_col c HG 29 (k0_off100_eq t)) $$ HC; iintro HC
  iapply (wp_look c) $$ HC; iintro %w101 HC
  iapply K $$ HC

end Cert.KernelIdeal.Top
-- ==== Proof.Trip.lean ====
/-
One trip of the kernel's first loop from its invariant to its invariant, and the loop: afterwards the send buffer holds
the 32 columns of every row of the device's block.
-/
module

public import proofs.«01_k».proof.Proof.Copies
public import proofs.«01_k».proof.Proof.Scan
public import proofs.«01_k».proof.Proof.Emit

@[expose] public section

set_option maxRecDepth 16384

noncomputable section

namespace Cert.KernelIdeal.Top

open Cert.KernelIdeal Cert.KernelIdeal.Gen
open Idealize.ShloMosaic
open Idealize.ShloMosaic.TcCoe
open Idealize.ShloMosaic.ValueIdx (ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- The columns of a device's rows `x`: what the first loop writes. -/
def sendOf (x : Vec F S1024x8192 .f32) : Vec F S1024x32 .f32 := fun y =>
  col (ldOf x ((y 0).val / 256)) (y 1).val (ix2 ⟨(y 0).val % 256, Nat.mod_lt _ (by decide)⟩ 0)

theorem colsOf_send (x : Vec F S1024x8192 .f32) (t : ℕ) : ColsOf (sendOf x) t (col (ldOf x t)) := fun y z h => by
  have h0 : (z 0).val < 256 := (z 0).isLt
  have h1 : (z 1).val < 1 := (z 1).isLt
  unfold sendOf
  rw [show (y 0).val / 256 = t by omega]
  congr 1
  funext a; fin_cases a
  · refine Fin.ext ?_
    show (y 0).val % 256 = (z 0).val
    omega
  · refine Fin.ext ?_
    show 0 = (z 1).val
    omega

variable (c : Dev nD) (arg0 : Memref sig .tc .hbm S1024x8192 .f32) (harg0 : arg0.IsWhole) (arg1 : Memref sig .tc .vmem S1024x32 .f32) (harg1 : arg1.IsWhole)
  (arg2 : Memref sig .tc .vmem S2x256x8192 .f32) (harg2 : arg2.IsWhole) (arg3 : Memref sig .tc .vmem S1024x32 .f32) (harg3 : arg3.IsWhole)
  (arg4 : Memref sig .tc .vmem S1024x32 .f32) (harg4 : arg4.IsWhole) (arg5 : DmaSems sig S2) (arg6 : DmaSems sig S_) (arg7 : DmaSems sig S_)
  (x : arg0.view.ty.Contents (Elt F))

/-- What the copies hold before trip `k`: block `k` under way and the other slot free, or, after the last trip, all free. -/
def Ready (k : ℕ) : sProp 𝕄 :=
  if h : k < 4 then iprop(Fly c arg0 arg2 arg5 x ⟨k, h⟩ ∗ slotAny c arg2 (par (k + 1)) ∗ semZero c arg5 (par (k + 1)))
  else iprop(rowsAt c arg0 x ∗ slotAny c arg2 (par k) ∗ semZero c arg5 (par k) ∗ slotAny c arg2 (par (k + 1)) ∗ semZero c arg5 (par (k + 1)))

/-- The same during trip `k`, once its block has landed and the next is under way; block `k`'s slot is apart. -/
def Ahead (k : ℕ) : sProp 𝕄 :=
  if h : k + 1 < 4 then iprop(Fly c arg0 arg2 arg5 x ⟨k + 1, h⟩ ∗ semZero c arg5 (par k))
  else iprop(rowsAt c arg0 x ∗ semZero c arg5 (par k) ∗ slotAny c arg2 (par (k + 1)) ∗ semZero c arg5 (par (k + 1)))

theorem ready_next (k : ℕ) : iprop(Ahead c arg0 arg2 arg5 x k ∗ slotAny c arg2 (par k)) ⊢ Ready c arg0 arg2 arg5 x (k + 1) := by
  unfold Ready Ahead
  rw [show k + 1 + 1 = k + 2 from rfl, par_two]
  by_cases h : k + 1 < 4
  · rw [dif_pos h, dif_pos h]
    iintro ⟨⟨HF, HZ⟩, HS⟩
    isplitl [HF]; · iexact HF
    isplitl [HS] <;> iassumption
  · rw [dif_neg h, dif_neg h]
    iintro ⟨⟨HX, HZ, HS', HZ'⟩, HS⟩
    isplitl [HX]; · iexact HX
    isplitl [HS']; · iexact HS'
    isplitl [HZ']; · iexact HZ'
    isplitl [HS] <;> iassumption

theorem cond1_iff : ∀ t : Fin k0_t1_loop.trips, k0_cond1 t = 1#1 ↔ t.val + 1 < 4 := by decide +kernel

theorem trips1_lt : ∀ t : Fin k0_t1_loop.trips, t.val < 4 := by decide +kernel

variable (O : CellTallies nD τ sig Bool)

theorem part1 (t : Fin k0_t1_loop.trips) {α : Type}
    {kk : (Σ' (_ : BitVec 32) (_ : BitVec 32) (_ : FVec F S256x128 .f32) (_ : FVec F S256x128 .f32) (_ : FVec F S256x128 .f32) (_ : FVec F S256x128 .f32) (_ : FVec F S256x128 .f32) (_ : FVec F S256x128 .f32) (_ : FVec F S256x128 .f32), FVec F S256x128 .f32) → Prog (TpuEff nD τ sig (Elt F) Λ₀ .tc) α} {Q : α → sProp 𝕄} :
    iprop(Ready c arg0 arg2 arg5 x t.val ∗ (∃ W, owes (c : Thread nD τ) O W) ∗ MayWait (c : Thread nD τ) (.dma (semOf arg5 (par t.val))) false O)
      ⊢ iprop((∀ v42 v53 f, (⌜Holds arg2 t.val (slotS arg2 (par t.val)) f (ldOf (arg0.view.read (Elt F) x) t.val)⌝
            ∗ (arg2.view.loc (c : Thread nD τ) ↦[slotS arg2 (par t.val)]{fullShare} f) ∗ Ahead c arg0 arg2 arg5 x t.val ∗ (∃ W, owes (c : Thread nD τ) O W))
            -∗ Wp c (kk ⟨v42, v53, reg (ldOf (arg0.view.read (Elt F) x) t.val) 1 1, reg (ldOf (arg0.view.read (Elt F) x) t.val) 1 2, reg (ldOf (arg0.view.read (Elt F) x) t.val) 1 3, reg (ldOf (arg0.view.read (Elt F) x) t.val) 1 4, reg (ldOf (arg0.view.read (Elt F) x) t.val) 1 5, reg (ldOf (arg0.view.read (Elt F) x) t.val) 2 0, rest (ldOf (arg0.view.read (Elt F) x) t.val) 1 1, reg (ldOf (arg0.view.read (Elt F) x) t.val) 2 1⟩) Q)
        -∗ Wp c (k0_part1 arg0 harg0 arg1 harg1 arg2 harg2 arg3 harg3 arg4 harg4 arg5 arg6 arg7 0#32 1#32 t >>= kk) Q) := by
  rw [k0_part1_eq_skeleton]; unfold k0_part1_skel
  simp only [Prog.lift, Prog.bind_op, Prog.bind_ret, Prog.pure_eq_ret]
  have ht := trips1_lt t
  unfold Ready
  rw [dif_pos ht]
  iintro ⟨⟨HF, HS', HZ'⟩, ⟨%W, HO⟩, HM⟩ K
  iapply (wp_landed c arg0 arg2 arg5 (x := x) ⟨t.val, ht⟩ (k0_off1_eq t) (k0_off2_eq t)) $$ [HF HO HM]
  · isplitl [HF]; · iexact HF
    isplitl [HO]; · iexact HO
    iexact HM
  iintro %f ⟨%H, HB, HX, HZ, HO⟩
  replace H : Holds arg2 t.val (slotS arg2 (par t.val)) f (ldOf (arg0.view.read (Elt F) x) t.val) := H
  unfold Ahead
  by_cases h : t.val + 1 < 4
  · rw [dif_pos ((cond1_iff t).mpr h), dif_pos h]
    simp only [Prog.bind_op, Prog.bind_ret]
    iapply (wp_start c arg0 arg2 arg5 (x := x) ⟨t.val + 1, h⟩ (k0_off4_eq t) (k0_off5_eq t) (k0_off6_eq t)) $$ [HX HS' HZ']
    · isplitl [HX]; · iexact HX
      isplitl [HS'] <;> iassumption
    iintro HF
    iapply (wp_ld c H 0 (by decide) (k0_off7_eq t)) $$ HB; iintro HB
    iapply (wp_ld c H 1 (by decide) (k0_off8_eq t)) $$ HB; iintro HB
    iapply K $$ %(Scalar.remsi (Scf.iv 0#32 1#32 t) 2#32) %(Scalar.muli (Scf.iv 0#32 1#32 t) 256#32) %f
    isplitr; · ipureintro; exact H
    isplitl [HB]; · iexact HB
    isplitr [HO]; · isplitl [HF] <;> iassumption
    iexact HO
  · rw [dif_neg (fun h' => h ((cond1_iff t).mp h')), dif_neg h]
    simp only [Prog.bind_op, Prog.bind_ret]
    iapply (wp_ld c H 0 (by decide) (k0_off7_eq t)) $$ HB; iintro HB
    iapply (wp_ld c H 1 (by decide) (k0_off8_eq t)) $$ HB; iintro HB
    iapply K $$ %(Scalar.remsi (Scf.iv 0#32 1#32 t) 2#32) %(Scalar.muli (Scf.iv 0#32 1#32 t) 256#32) %f
    isplitr; · ipureintro; exact H
    isplitl [HB]; · iexact HB
    isplitr [HO]
    · isplitl [HX]; · iexact HX
      isplitl [HZ]; · iexact HZ
      isplitl [HS'] <;> iassumption
    iexact HO

/-! ## The trip -/

/-- Before trip `k` of the first loop. -/
def Inv1 (k : ℕ) : sProp 𝕄 :=
  iprop(Ready c arg0 arg2 arg5 x k ∗ Cols c arg3 (sendOf (arg0.view.read (Elt F) x)) k 0 ∗ (∃ W, owes (c : Thread nD τ) O W))

theorem trip1 (t : Fin k0_t1_loop.trips) {R : sProp 𝕄} [BI.Persistent R]
    (hM : ∀ u, R ⊢ MayWait (c : Thread nD τ) (.dma (semOf arg5 u)) false O) :
    iprop(Inv1 c arg0 arg2 arg3 arg5 x O t.val ∗ R)
      ⊢ Wp c (k0_t1_body arg0 harg0 arg1 harg1 arg2 harg2 arg3 harg3 arg4 harg4 arg5 arg6 arg7 t ())
          (fun _ => iprop(Inv1 c arg0 arg2 arg3 arg5 x O (t.val + 1) ∗ R)) := by
  unfold Inv1
  iintro ⟨⟨HR, HC, HO⟩, #HL⟩
  unfold k0_t1_body
  have HG := colsOf_send (arg0.view.read (Elt F) x) t.val
  iapply (part1 c arg0 harg0 arg1 harg1 arg2 harg2 arg3 harg3 arg4 harg4 arg5 arg6 arg7 x O t) $$ [HR HO]
  · isplitl [HR]; · iexact HR
    isplitl [HO]; · iexact HO
    iapply (hM _); iexact HL
  iintro %v42 %v53 %f ⟨%H, HB, HA, HO⟩
  iapply (part2 c arg0 harg0 arg1 harg1 arg2 harg2 arg3 harg3 arg4 harg4 arg5 arg6 arg7 t v42 H) $$ HB; iintro HB
  iapply (part3 c arg0 harg0 arg1 harg1 arg2 harg2 arg3 harg3 arg4 harg4 arg5 arg6 arg7 t v42 H) $$ HB; iintro HB
  iapply (part4 c arg0 harg0 arg1 harg1 arg2 harg2 arg3 harg3 arg4 harg4 arg5 arg6 arg7 t v42 H) $$ HB; iintro HB
  iapply (part5 c arg0 harg0 arg1 harg1 arg2 harg2 arg3 harg3 arg4 harg4 arg5 arg6 arg7 t v42 H) $$ HB; iintro HB
  iapply (part6 c arg0 harg0 arg1 harg1 arg2 harg2 arg3 harg3 arg4 harg4 arg5 arg6 arg7 t v42 H) $$ HB; iintro HB
  iapply (part7 c arg0 harg0 arg1 harg1 arg2 harg2 arg3 harg3 arg4 harg4 arg5 arg6 arg7 t v42 H) $$ HB; iintro HB
  iapply (part8 c arg0 harg0 arg1 harg1 arg2 harg2 arg3 harg3 arg4 harg4 arg5 arg6 arg7 t v42 H) $$ HB; iintro HB
  iapply (part9 c arg0 harg0 arg1 harg1 arg2 harg2 arg3 harg3 arg4 harg4 arg5 arg6 arg7 t v42 H) $$ HB; iintro HB
  iapply (part10 c arg0 harg0 arg1 harg1 arg2 harg2 arg3 harg3 arg4 harg4 arg5 arg6 arg7 t v42 H) $$ HB; iintro HB
  iapply (part11 c arg0 harg0 arg1 harg1 arg2 harg2 arg3 harg3 arg4 harg4 arg5 arg6 arg7 t v42 H) $$ HB; iintro HB
  iapply (part12 c arg0 harg0 arg1 harg1 arg2 harg2 arg3 harg3 arg4 harg4 arg5 arg6 arg7 t v42 H) $$ HB; iintro HB
  iapply (part13 c arg0 harg0 arg1 harg1 arg2 harg2 arg3 harg3 arg4 harg4 arg5 arg6 arg7 t v42 H) $$ HB; iintro HB
  iapply (part14 c arg0 harg0 arg1 harg1 arg2 harg2 arg3 harg3 arg4 harg4 arg5 arg6 arg7 t v42 H) $$ HB; iintro HB
  iapply (part15 c arg0 harg0 arg1 harg1 arg2 harg2 arg3 harg3 arg4 harg4 arg5 arg6 arg7 t v42 H) $$ HB; iintro HB
  iapply (part16 c arg0 harg0 arg1 harg1 arg2 harg2 arg3 harg3 arg4 harg4 arg5 arg6 arg7 t v42 H) $$ HB; iintro HB
  iapply (part17 c arg0 harg0 arg1 harg1 arg2 harg2 arg3 harg3 arg4 harg4 arg5 arg6 arg7 t v42 H) $$ HB; iintro HB
  iapply (part18 c arg0 harg0 arg1 harg1 arg2 harg2 arg3 harg3 arg4 harg4 arg5 arg6 arg7 t v42 v53 H HG) $$ [HB HC]
  · isplitl [HB] <;> iassumption
  iintro HB HC
  iapply (part19 c arg0 harg0 arg1 harg1 arg2 harg2 arg3 harg3 arg4 harg4 arg5 arg6 arg7 t v53 HG) $$ HC; iintro HC
  iapply (part20 c arg0 harg0 arg1 harg1 arg2 harg2 arg3 harg3 arg4 harg4 arg5 arg6 arg7 t v53 HG) $$ HC; iintro HC
  iapply (part21 c arg0 harg0 arg1 harg1 arg2 harg2 arg3 harg3 arg4 harg4 arg5 arg6 arg7 t v53 HG) $$ HC; iintro HC
  iapply (part22 c arg0 harg0 arg1 harg1 arg2 harg2 arg3 harg3 arg4 harg4 arg5 arg6 arg7 t v53 HG) $$ HC; iintro HC
  iapply (part23 c arg0 harg0 arg1 harg1 arg2 harg2 arg3 harg3 arg4 harg4 arg5 arg6 arg7 t v53 HG) $$ HC; iintro HC
  iapply (part24 c arg0 harg0 arg1 harg1 arg2 harg2 arg3 harg3 arg4 harg4 arg5 arg6 arg7 t v53 HG) $$ HC; iintro HC
  iapply (part25 c arg0 harg0 arg1 harg1 arg2 harg2 arg3 harg3 arg4 harg4 arg5 arg6 arg7 t v53 HG) $$ HC; iintro HC
  iapply (part26 c arg0 harg0 arg1 harg1 arg2 harg2 arg3 harg3 arg4 harg4 arg5 arg6 arg7 t v53 HG) $$ HC; iintro %w HC
  iapply (part27 c arg0 harg0 arg1 harg1 arg2 harg2 arg3 harg3 arg4 harg4 arg5 arg6 arg7 t v53 HG) $$ HC; iintro HC
  simp only [Prog.lift, Prog.bind_op, Prog.bind_ret, Prog.pure_eq_ret]
  iapply (wp_col c HG 30 (k0_off101_eq t)) $$ HC; iintro HC
  iapply (wp_look c) $$ HC; iintro %w31 HC
  iapply (wp_col c HG 31 (k0_off102_eq t)) $$ HC; iintro HC
  unfold Wp; rw [wp_ret]; imodintro
  isplitl [HA HB HC HO]
  · isplitl [HA HB]
    · iapply (ready_next c arg0 arg2 arg5 x t.val)
      isplitl [HA]; · iexact HA
      unfold slotAny; iexists f; iexact HB
    isplitl [HC]
    · unfold Cols
      icases HC with ⟨%g, HC, %hg⟩
      iexists g
      isplitl [HC]; · iexact HC
      ipureintro; exact done_next hg
    iexact HO
  iexact HL

end Cert.KernelIdeal.Top
-- ==== Proof.Merge.lean ====
/-
One trip of the kernel's second loop and the loop: 64 columns, the device's own 32 and the 32 that arrived, are merged
into the 32 columns of the result, the greatest element of each row struck out before the next is taken.
-/
module

public import proofs.«01_k».proof.Proof.Steps

@[expose] public section

set_option maxRecDepth 16384

noncomputable section

namespace Cert.KernelIdeal.Top

open Cert.KernelIdeal Cert.KernelIdeal.Gen
open Idealize.ShloMosaic
open Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- The rows of trip `t` of a 32-column array. -/
def blkOf (Y : Vec F S1024x32 .f32) (t : ℕ) : Vec F S256x32 .f32 := fun i =>
  Y (ix2 ⟨(256 * t + (i 0).val) % 1024, Nat.mod_lt _ (by decide)⟩ ⟨(i 1).val % 32, Nat.mod_lt _ (by decide)⟩)

/-- What the second loop writes from the columns `Y` and `Z`. -/
def mergeOf (Y Z : Vec F S1024x32 .f32) : Vec F S1024x32 .f32 := fun y =>
  outCol (merge (blkOf Y ((y 0).val / 256)) (blkOf Z ((y 0).val / 256)) (y 1).val) (ix2 ⟨(y 0).val % 256, Nat.mod_lt _ (by decide)⟩ 0)

theorem colsOf_merge (Y Z : Vec F S1024x32 .f32) (t : ℕ) : ColsOf (mergeOf Y Z) t (fun i => outCol (merge (blkOf Y t) (blkOf Z t) i)) := fun y z h => by
  have h0 : (z 0).val < 256 := (z 0).isLt
  have h1 : (z 1).val < 1 := (z 1).isLt
  unfold mergeOf
  rw [show (y 0).val / 256 = t by omega]
  congr 1
  funext a; fin_cases a
  · refine Fin.ext ?_
    show (y 0).val % 256 = (z 0).val
    omega
  · refine Fin.ext ?_
    show 0 = (z 1).val
    omega

variable (c : Dev nD)

/-- A 32-column buffer held whole, reading `Y`. -/
def Held (M : Memref sig .tc .vmem S1024x32 .f32) (Y : Vec F S1024x32 .f32) : sProp 𝕄 :=
  iprop(∃ g, (M.view.loc (c : Thread nD τ) ↦[M.view.set]{fullShare} g) ∗ ⌜M.view.read (Elt F) g = Y⌝)

theorem wp_blk {α : Type} {M : Memref sig .tc .vmem S1024x32 .f32} {Y : Vec F S1024x32 .f32} (t : ℕ) (ht : t < 4) {off : Fin 2 → ℕ}
    (hoff : off = ![256 * t, 0]) {inb} {hl : M.view.LoadsAt (Rect.unit (s := S1024x32) off S256x32.size inb).toLoadRect}
    {k : Vec F S256x32 .f32 → Prog (TpuEff nD τ sig (Elt F) Λ₀ .tc) α} {Q : α → sProp 𝕄} :
    Held c M Y
      ⊢ iprop((Held c M Y -∗ Wp c (k (blkOf Y t)) Q)
        -∗ Wp c (.op (.load M (Rect.unit (s := S1024x32) off S256x32.size inb).toLoadRect hl) k) Q) := by
  subst hoff
  unfold Held
  iintro ⟨%g, HM, %hg⟩ K
  have hv : M.view.readAt (Elt F) (Rect.unit (s := S1024x32) ![256 * t, 0] S256x32.size inb).toLoadRect g = blkOf Y t := by
    subst hg
    funext i
    have h0 : (i 0).val < 256 := (i 0).isLt
    have h1 : (i 1).val < 32 := (i 1).isLt
    rw [View.readAt_apply]
    unfold blkOf
    congr 1
    funext a; fin_cases a
    · refine Fin.ext ?_
      show 256 * t + 1 * (i 0).val = (256 * t + (i 0).val) % 1024
      omega
    · refine Fin.ext ?_
      show 0 + 1 * (i 1).val = (i 1).val % 32
      omega
  rw [← hv]
  iapply (wp_load 𝒱₀ (c : Thread nD τ) none Set.univ (M.view.setOn_subset_set _)) $$ HM
  iintro HM
  iapply K
  iexists g; isplitl [HM]; · iexact HM
  ipureintro; exact hg

theorem trips2_lt : ∀ t : Fin k0_t2_loop.trips, t.val < 4 := by decide +kernel

variable (arg0 : Memref sig .tc .hbm S1024x8192 .f32) (harg0 : arg0.IsWhole) (arg1 : Memref sig .tc .vmem S1024x32 .f32) (harg1 : arg1.IsWhole)
  (arg2 : Memref sig .tc .vmem S2x256x8192 .f32) (harg2 : arg2.IsWhole) (arg3 : Memref sig .tc .vmem S1024x32 .f32) (harg3 : arg3.IsWhole)
  (arg4 : Memref sig .tc .vmem S1024x32 .f32) (harg4 : arg4.IsWhole) (arg5 : DmaSems sig S2) (arg6 : DmaSems sig S_) (arg7 : DmaSems sig S_)
  (t : Fin k0_t2_loop.trips) (v42 : BitVec 32) {α : Type} {a b : Vec F S256x32 .f32}
  {G : Vec F S1024x32 .f32} (HG : ColsOf G t (fun i => outCol (merge a b i)))

include HG in
theorem part29 {kk : (Σ' (_ : FVec F S256x64 .f32), FVec F S256 .f32) → Prog (TpuEff nD τ sig (Elt F) Λ₀ .tc) α} {Q : α → sProp 𝕄} :
    Cols c arg1 G t 4
      ⊢ iprop((Cols c arg1 G t 9 -∗ Wp c (kk ⟨merge a b 9, best (merge a b 9)⟩) Q)
        -∗ Wp c (k0_part29 arg0 harg0 arg1 harg1 arg2 harg2 arg3 harg3 arg4 harg4 arg5 arg6 arg7 t v42 (merge a b 4) (best (merge a b 4)) >>= kk) Q) := by
  rw [k0_part29_eq_skeleton]; unfold k0_part29_skel
  simp only [Prog.lift, Prog.bind_op, Prog.bind_ret, Prog.pure_eq_ret]
  iintro HC K
  iapply (wp_look c) $$ HC; iintro %w4 HC
  iapply (wp_col c HG 4 (k0_off108_eq t)) $$ HC; iintro HC
  iapply (wp_look c) $$ HC; iintro %w5 HC
  iapply (wp_col c HG 5 (k0_off109_eq t)) $$ HC; iintro HC
  iapply (wp_look c) $$ HC; iintro %w6 HC
  iapply (wp_col c HG 6 (k0_off110_eq t)) $$ HC; iintro HC
  iapply (wp_look c) $$ HC; iintro %w7 HC
  iapply (wp_col c HG 7 (k0_off111_eq t)) $$ HC; iintro HC
  iapply (wp_look c) $$ HC; iintro %w8 HC
  iapply (wp_col c HG 8 (k0_off112_eq t)) $$ HC; iintro HC
  iapply K $$ HC

include HG in
theorem part30 {kk : (Σ' (_ : FVec F S256x64 .f32), FVec F S256 .f32) → Prog (TpuEff nD τ sig (Elt F) Λ₀ .tc) α} {Q : α → sProp 𝕄} :
    Cols c arg1 G t 9
      ⊢ iprop((Cols c arg1 G t 14 -∗ Wp c (kk ⟨merge a b 14, best (merge a b 14)⟩) Q)
        -∗ Wp c (k0_part30 arg0 harg0 arg1 harg1 arg2 harg2 arg3 harg3 arg4 harg4 arg5 arg6 arg7 t v42 (merge a b 9) (best (merge a b 9)) >>= kk) Q) := by
  rw [k0_part30_eq_skeleton]; unfold k0_part30_skel
  simp only [Prog.lift, Prog.bind_op, Prog.bind_ret, Prog.pure_eq_ret]
  iintro HC K
  iapply (wp_look c) $$ HC; iintro %w9 HC
  iapply (wp_col c HG 9 (k0_off113_eq t)) $$ HC; iintro HC
  iapply (wp_look c) $$ HC; iintro %w10 HC
  iapply (wp_col c HG 10 (k0_off114_eq t)) $$ HC; iintro HC
  iapply (wp_look c) $$ HC; iintro %w11 HC
  iapply (wp_col c HG 11 (k0_off115_eq t)) $$ HC; iintro HC
  iapply (wp_look c) $$ HC; iintro %w12 HC
  iapply (wp_col c HG 12 (k0_off116_eq t)) $$ HC; iintro HC
  iapply (wp_look c) $$ HC; iintro %w13 HC
  iapply (wp_col c HG 13 (k0_off117_eq t)) $$ HC; iintro HC
  iapply K $$ HC

include HG in
theorem part31 {kk : (Σ' (_ : FVec F S256x64 .f32), FVec F S256 .f32) → Prog (TpuEff nD τ sig (Elt F) Λ₀ .tc) α} {Q : α → sProp 𝕄} :
    Cols c arg1 G t 14
      ⊢ iprop((Cols c arg1 G t 19 -∗ Wp c (kk ⟨merge a b 19, best (merge a b 19)⟩) Q)
        -∗ Wp c (k0_part31 arg0 harg0 arg1 harg1 arg2 harg2 arg3 harg3 arg4 harg4 arg5 arg6 arg7 t v42 (merge a b 14) (best (merge a b 14)) >>= kk) Q) := by
  rw [k0_part31_eq_skeleton]; unfold k0_part31_skel
  simp only [Prog.lift, Prog.bind_op, Prog.bind_ret, Prog.pure_eq_ret]
  iintro HC K
  iapply (wp_look c) $$ HC; iintro %w14 HC
  iapply (wp_col c HG 14 (k0_off118_eq t)) $$ HC; iintro HC
  iapply (wp_look c) $$ HC; iintro %w15 HC
  iapply (wp_col c HG 15 (k0_off119_eq t)) $$ HC; iintro HC
  iapply (wp_look c) $$ HC; iintro %w16 HC
  iapply (wp_col c HG 16 (k0_off120_eq t)) $$ HC; iintro HC
  iapply (wp_look c) $$ HC; iintro %w17 HC
  iapply (wp_col c HG 17 (k0_off121_eq t)) $$ HC; iintro HC
  iapply (wp_look c) $$ HC; iintro %w18 HC
  iapply (wp_col c HG 18 (k0_off122_eq t)) $$ HC; iintro HC
  iapply K $$ HC

include HG in
theorem part32 {kk : (Σ' (_ : FVec F S256x64 .f32), FVec F S256 .f32) → Prog (TpuEff nD τ sig (Elt F) Λ₀ .tc) α} {Q : α → sProp 𝕄} :
    Cols c arg1 G t 19
      ⊢ iprop((Cols c arg1 G t 24 -∗ Wp c (kk ⟨merge a b 24, best (merge a b 24)⟩) Q)
        -∗ Wp c (k0_part32 arg0 harg0 arg1 harg1 arg2 harg2 arg3 harg3 arg4 harg4 arg5 arg6 arg7 t v42 (merge a b 19) (best (merge a b 19)) >>= kk) Q) := by
  rw [k0_part32_eq_skeleton]; unfold k0_part32_skel
  simp only [Prog.lift, Prog.bind_op, Prog.bind_ret, Prog.pure_eq_ret]
  iintro HC K
  iapply (wp_look c) $$ HC; iintro %w19 HC
  iapply (wp_col c HG 19 (k0_off123_eq t)) $$ HC; iintro HC
  iapply (wp_look c) $$ HC; iintro %w20 HC
  iapply (wp_col c HG 20 (k0_off124_eq t)) $$ HC; iintro HC
  iapply (wp_look c) $$ HC; iintro %w21 HC
  iapply (wp_col c HG 21 (k0_off125_eq t)) $$ HC; iintro HC
  iapply (wp_look c) $$ HC; iintro %w22 HC
  iapply (wp_col c HG 22 (k0_off126_eq t)) $$ HC; iintro HC
  iapply (wp_look c) $$ HC; iintro %w23 HC
  iapply (wp_col c HG 23 (k0_off127_eq t)) $$ HC; iintro HC
  iapply K $$ HC

include HG in
theorem part33 {kk : (Σ' (_ : FVec F S256x64 .f32), FVec F S256 .f32) → Prog (TpuEff nD τ sig (Elt F) Λ₀ .tc) α} {Q : α → sProp 𝕄} :
    Cols c arg1 G t 24
      ⊢ iprop((Cols c arg1 G t 29 -∗ Wp c (kk ⟨merge a b 29, best (merge a b 29)⟩) Q)
        -∗ Wp c (k0_part33 arg0 harg0 arg1 harg1 arg2 harg2 arg3 harg3 arg4 harg4 arg5 arg6 arg7 t v42 (merge a b 24) (best (merge a b 24)) >>= kk) Q) := by
  rw [k0_part33_eq_skeleton]; unfold k0_part33_skel
  simp only [Prog.lift, Prog.bind_op, Prog.bind_ret, Prog.pure_eq_ret]
  iintro HC K
  iapply (wp_look c) $$ HC; iintro %w24 HC
  iapply (wp_col c HG 24 (k0_off128_eq t)) $$ HC; iintro HC
  iapply (wp_look c) $$ HC; iintro %w25 HC
  iapply (wp_col c HG 25 (k0_off129_eq t)) $$ HC; iintro HC
  iapply (wp_look c) $$ HC; iintro %w26 HC
  iapply (wp_col c HG 26 (k0_off130_eq t)) $$ HC; iintro HC
  iapply (wp_look c) $$ HC; iintro %w27 HC
  iapply (wp_col c HG 27 (k0_off131_eq t)) $$ HC; iintro HC
  iapply (wp_look c) $$ HC; iintro %w28 HC
  iapply (wp_col c HG 28 (k0_off132_eq t)) $$ HC; iintro HC
  iapply K $$ HC

/-- Before trip `k` of the second loop. -/
def Inv2 (Y Z : Vec F S1024x32 .f32) (k : ℕ) : sProp 𝕄 :=
  iprop(Held c arg3 Y ∗ Held c arg4 Z ∗ Cols c arg1 (mergeOf Y Z) k 0)

theorem part28 {Y Z : Vec F S1024x32 .f32} {kk : (Σ' (_ : BitVec 32) (_ : FVec F S256x64 .f32), FVec F S256 .f32) → Prog (TpuEff nD τ sig (Elt F) Λ₀ .tc) α} {Q : α → sProp 𝕄} :
    Inv2 c arg1 arg3 arg4 Y Z t
      ⊢ iprop((∀ v42, (Held c arg3 Y ∗ Held c arg4 Z ∗ Cols c arg1 (mergeOf Y Z) t 4)
            -∗ Wp c (kk ⟨v42, merge (blkOf Y t) (blkOf Z t) 4, best (merge (blkOf Y t) (blkOf Z t) 4)⟩) Q)
        -∗ Wp c (k0_part28 arg0 harg0 arg1 harg1 arg2 harg2 arg3 harg3 arg4 harg4 arg5 arg6 arg7 0#32 1#32 t >>= kk) Q) := by
  rw [k0_part28_eq_skeleton]; unfold k0_part28_skel
  simp only [Prog.lift, Prog.bind_op, Prog.bind_ret, Prog.pure_eq_ret]
  have HG := colsOf_merge Y Z t.val
  unfold Inv2
  iintro ⟨HY, HZ, HC⟩ K
  iapply (wp_blk c t.val (trips2_lt t) (k0_off103_eq t)) $$ HY; iintro HY
  iapply (wp_blk c t.val (trips2_lt t) (k0_off103_eq t)) $$ HZ; iintro HZ
  iapply (wp_look c) $$ HC; iintro %w0 HC
  iapply (wp_col c HG 0 (k0_off104_eq t)) $$ HC; iintro HC
  iapply (wp_look c) $$ HC; iintro %w1 HC
  iapply (wp_col c HG 1 (k0_off105_eq t)) $$ HC; iintro HC
  iapply (wp_look c) $$ HC; iintro %w2 HC
  iapply (wp_col c HG 2 (k0_off106_eq t)) $$ HC; iintro HC
  iapply (wp_look c) $$ HC; iintro %w3 HC
  iapply (wp_col c HG 3 (k0_off107_eq t)) $$ HC; iintro HC
  iapply K $$ %(Scalar.muli (Scf.iv 0#32 1#32 t) 256#32)
  isplitl [HY]; · iexact HY
  isplitl [HZ] <;> iassumption

theorem trip2 {Y Z : Vec F S1024x32 .f32} :
    Inv2 c arg1 arg3 arg4 Y Z t
      ⊢ Wp c (k0_t2_body arg0 harg0 arg1 harg1 arg2 harg2 arg3 harg3 arg4 harg4 arg5 arg6 arg7 t ()) (fun _ => Inv2 c arg1 arg3 arg4 Y Z (t.val + 1)) := by
  iintro HI
  unfold k0_t2_body
  have HG := colsOf_merge Y Z t.val
  iapply (part28 c arg0 harg0 arg1 harg1 arg2 harg2 arg3 harg3 arg4 harg4 arg5 arg6 arg7 t) $$ HI
  iintro %v42 ⟨HY, HZ, HC⟩
  iapply (part29 c arg0 harg0 arg1 harg1 arg2 harg2 arg3 harg3 arg4 harg4 arg5 arg6 arg7 t v42 HG) $$ HC; iintro HC
  iapply (part30 c arg0 harg0 arg1 harg1 arg2 harg2 arg3 harg3 arg4 harg4 arg5 arg6 arg7 t v42 HG) $$ HC; iintro HC
  iapply (part31 c arg0 harg0 arg1 harg1 arg2 harg2 arg3 harg3 arg4 harg4 arg5 arg6 arg7 t v42 HG) $$ HC; iintro HC
  iapply (part32 c arg0 harg0 arg1 harg1 arg2 harg2 arg3 harg3 arg4 harg4 arg5 arg6 arg7 t v42 HG) $$ HC; iintro HC
  iapply (part33 c arg0 harg0 arg1 harg1 arg2 harg2 arg3 harg3 arg4 harg4 arg5 arg6 arg7 t v42 HG) $$ HC; iintro HC
  simp only [Prog.lift, Prog.bind_op, Prog.bind_ret, Prog.pure_eq_ret]
  iapply (wp_look c) $$ HC; iintro %w29 HC
  iapply (wp_col c HG 29 (k0_off133_eq t)) $$ HC; iintro HC
  iapply (wp_look c) $$ HC; iintro %w30 HC
  iapply (wp_col c HG 30 (k0_off134_eq t)) $$ HC; iintro HC
  iapply (wp_look c) $$ HC; iintro %w31 HC
  iapply (wp_col c HG 31 (k0_off135_eq t)) $$ HC; iintro HC
  unfold Wp; rw [wp_ret]; imodintro
  unfold Inv2
  isplitl [HY]; · iexact HY
  isplitl [HZ]; · iexact HZ
  unfold Cols
  icases HC with ⟨%g, HC, %hg⟩
  iexists g
  isplitl [HC]; · iexact HC
  ipureintro; exact done_next hg

end Cert.KernelIdeal.Top
-- ==== Proof.Protocol.lean ====
/-
What the devices agree on. Device `c` works with one partner. They meet twice on the runtime's barrier semaphore: once before
the columns are exchanged, where each hands the other its receive buffer, and once at the end. In between each sends its
columns into the other's receive buffer.

A barrier cell has two rounds, each of one unit paid by the partner; a send and a receive cell have one round of the
transfer's credit. The two rounds of a barrier cell are owed at different levels: the first below the transfer, the second
above it.
-/
module

public import proofs.«01_k».proof.Proof.Trip
public import proofs.«01_k».proof.Proof.Merge
public import Idealize.ShloMosaic.Lib.Pipeline.Launch
public import Idealize.ShloMosaic.Lib.Pipeline.Kit

@[expose] public section

set_option maxRecDepth 16384

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

abbrev EP : Emb (UR sig nD τ) (MT nD τ sig Bool (Elt F) ℕ UU ℕ) := embL
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb

omit [FloatOps F] in
instance ER_landsIn : (ER : Emb UB 𝕄).LandsIn (upEmb : UEmb _ 𝕄) := by unfold ER; infer_instance

/-! ## Partners and cells -/

set_option backward.proofsInPublic true in
/-- The device with the other half of the same rows' elements. -/
def partner (c : Dev nD) : Dev nD := ⟨(c.val + 16) % 32, Nat.mod_lt _ (by decide)⟩

theorem partner_partner (c : Dev nD) : partner (partner c) = c := by revert c; decide

theorem dev1_eq (c : Dev nD) : (⟨k0_dev1 c, k0_dev1_lt c⟩ : Dev nD) = partner c :=
  Fin.ext ((k0_dev1_eq c).trans (by revert c; decide))
theorem dev2_eq (c : Dev nD) : (⟨k0_dev2 c, k0_dev2_lt c⟩ : Dev nD) = partner c :=
  Fin.ext ((k0_dev2_eq c).trans (by revert c; decide))
theorem dev3_eq (c : Dev nD) : (⟨k0_dev3 c, k0_dev3_lt c⟩ : Dev nD) = partner c :=
  Fin.ext ((k0_dev3_eq c).trans (by revert c; decide))

def swap : Dev nD ≃ Dev nD := ⟨partner, partner, partner_partner, partner_partner⟩

abbrev sM : Memref sig .tc .vmem S1024x32 .f32 := Memref.whole cc0_scratch1
abbrev rM : Memref sig .tc .vmem S1024x32 .f32 := Memref.whole cc0_scratch2

abbrev barS : Sem sig := (SemArray.scalar (sig.barrier 0 rfl) : Sems sig S_).sem
abbrev sendS : DmaSem sig := (cc0_scratch4 : DmaSems sig S_).sem
abbrev recvS : DmaSem sig := (cc0_scratch5 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The semaphores of the protocol. -/
abbrev csem : Fin 3 → SemLoc sig := fun | 0 => .reg barS | 1 => .dma sendS | 2 => .dma recvS
abbrev kcell (ck : Dev nD × Fin 3) : GSem nD τ sig := ((ck.1 : Thread nD τ), csem ck.2)

/-- The credit of one transfer. -/
abbrev N : ℕ := (rM : Memref sig .tc .vmem S1024x32 .f32).view.dmaCredit
theorem N_pos : 0 < N := View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-! ## The schedule -/

omit [FloatOps F] in
instance held_storable (c : Dev nD) (M : Memref sig .tc .vmem S1024x32 .f32) (Y : Vec F S1024x32 .f32) :
    BI.Storable (upEmb : UEmb _ 𝕄) (Held c M Y) := by unfold Held; infer_instance

/-- A buffer held whole, holding anything. -/
def Any (c : Dev nD) (M : Memref sig .tc .vmem S1024x32 .f32) : sProp 𝕄 :=
  iprop(∃ f, M.view.loc (c : Thread nD τ) ↦[M.view.set]{fullShare} f)

omit [FloatOps F] in
instance any_storable (c : Dev nD) (M : Memref sig .tc .vmem S1024x32 .f32) : BI.Storable (upEmb : UEmb _ 𝕄) (Any (F := F) c M) := by
  unfold Any; infer_instance

omit [FloatOps F] in
theorem held_any (c : Dev nD) (M : Memref sig .tc .vmem S1024x32 .f32) (Y : Vec F S1024x32 .f32) : Held c M Y ⊢ Any c M := by
  unfold Held Any
  iintro ⟨%g, H, -⟩
  iexists g; iexact H

variable (x : Dev nD → Vec F S1024x8192 .f32)

/-- What the partner's first signal hands device `c`: the partner's receive buffer, the transfer into it not yet begun. -/
def barPay (c : Dev nD) : sProp 𝕄 := iprop(Any (partner c) rM ∗ reached ER (recvCell (partner c)) 0)
/-- What the partner's transfer hands device `c`: its receive buffer with the partner's columns, and that the partner is past
    its first meeting. -/
def recvPay (c : Dev nD) : sProp 𝕄 := iprop(Held c rM (sendOf (x (partner c))) ∗ reached ER (barCell (partner c)) 1)
/-- What its own transfer hands back to device `c`. -/
def sendPay (c : Dev nD) : sProp 𝕄 := Held c sM (sendOf (x c))

abbrev IsBar (g : GSem nD τ sig) : Prop := g.1.2 = .tc ∧ g.2 = .reg barS
abbrev IsXfer (g : GSem nD τ sig) : Prop := g.1.2 = .tc ∧ (g.2 = .dma sendS ∨ g.2 = .dma recvS)

def rd : Rounds.Schedule (GSem nD τ sig) Bool 𝕄 where
  duties g r := if r < 2 ∧ IsBar g then {false} else if r = 0 ∧ IsXfer g then {false} else ∅
  unitless _ := False
  amount g _ _ := if g.2 = .reg barS then 1 else N
  payload g r _ :=
    if g.2 = .reg barS then (if r = 0 then barPay g.1.1 else iprop(emp))
    else if g.2 = .dma recvS then recvPay x g.1.1
    else if g.2 = .dma sendS then sendPay x g.1.1
    else iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) x).payload g r d) := by
  show BI.Storable upEmb (if g.2 = .reg barS then (if r = 0 then barPay g.1.1 else iprop(emp)) else if g.2 = .dma recvS then recvPay x g.1.1
    else if g.2 = .dma sendS then sendPay x g.1.1 else iprop(emp))
  unfold barPay recvPay sendPay
  (repeat' split) <;> infer_instance

section Sched
variable (c : Dev nD)

theorem not_bar_send : ¬ IsBar (sendCell c) := fun h => send_ne_bar h.2
theorem not_bar_recv : ¬ IsBar (recvCell c) := fun h => recv_ne_bar h.2
theorem not_xfer_bar : ¬ IsXfer (barCell c) := fun h => by
  rcases h.2 with h | h <;> cases h

theorem duties_bar {r : ℕ} (hr : r < 2) : (rd (F := F) x).duties (barCell c) r = {false} := by
  dsimp only [rd]; exact if_pos ⟨hr, rfl, rfl⟩
theorem duties_send : (rd (F := F) x).duties (sendCell c) 0 = {false} := by
  dsimp only [rd]; rw [if_neg (fun h => not_bar_send c h.2)]; exact if_pos ⟨rfl, rfl, .inl rfl⟩
theorem duties_recv : (rd (F := F) x).duties (recvCell c) 0 = {false} := by
  dsimp only [rd]; rw [if_neg (fun h => not_bar_recv c h.2)]; exact if_pos ⟨rfl, rfl, .inr rfl⟩
theorem bar_over : ∀ r, 2 ≤ r → (rd (F := F) x).duties (barCell c) r = ∅ := fun r hr => by
  dsimp only [rd]; rw [if_neg fun h => by omega, if_neg fun h => by omega]
theorem send_over : ∀ r, 1 ≤ r → (rd (F := F) x).duties (sendCell c) r = ∅ := fun r hr => by
  dsimp only [rd]; rw [if_neg fun h => not_bar_send c h.2, if_neg fun h => by omega]
theorem recv_over : ∀ r, 1 ≤ r → (rd (F := F) x).duties (recvCell c) r = ∅ := fun r hr => by
  dsimp only [rd]; rw [if_neg fun h => not_bar_recv c h.2, if_neg fun h => by omega]

theorem amount_bar (r : ℕ) (d : Bool) : (rd (F := F) x).amount (barCell c) r d = 1 := by dsimp only [rd]; exact if_pos rfl
theorem amount_send (r : ℕ) (d : Bool) : (rd (F := F) x).amount (sendCell c) r d = N := by dsimp only [rd]; exact if_neg send_ne_bar
theorem amount_recv (r : ℕ) (d : Bool) : (rd (F := F) x).amount (recvCell c) r d = N := by dsimp only [rd]; exact if_neg recv_ne_bar

theorem expect_bar {r : ℕ} (hr : r < 2) : (rd (F := F) x).expect (barCell c) r = 1 := by
  unfold Schedule.expect Schedule.amountOf; rw [duties_bar x c hr, Finset.sum_singleton, amount_bar]
theorem expect_send : (rd (F := F) x).expect (sendCell c) 0 = N := by
  unfold Schedule.expect Schedule.amountOf; rw [duties_send, Finset.sum_singleton, amount_send]
theorem expect_recv : (rd (F := F) x).expect (recvCell c) 0 = N := by
  unfold Schedule.expect Schedule.amountOf; rw [duties_recv, Finset.sum_singleton, amount_recv]

theorem payload_bar0 (d : Bool) : (rd (F := F) x).payload (barCell c) 0 d = barPay c := by dsimp only [rd]; rw [if_pos rfl, if_pos rfl]
theorem payload_bar1 (d : Bool) : (rd (F := F) x).payload (barCell c) 1 d = iprop(emp) := by
  dsimp only [rd]; rw [if_pos rfl]; exact if_neg Nat.one_ne_zero
theorem payload_send (d : Bool) : (rd (F := F) x).payload (sendCell c) 0 d = sendPay x c := by
  dsimp only [rd]; rw [if_neg send_ne_bar, if_neg send_ne_recv, if_pos rfl]
theorem payload_recv (d : Bool) : (rd (F := F) x).payload (recvCell c) 0 d = recvPay x c := by
  dsimp only [rd]; rw [if_neg recv_ne_bar, if_pos rfl]

theorem rest_bar0 : bigSep ((rd (F := F) x).duties (barCell c) 0 \ ∅) (fun d => (rd (F := F) x).payload (barCell c) 0 d) = barPay c := by
  rw [Finset.sdiff_empty, duties_bar x c (by decide), bigSep_singleton, payload_bar0]
theorem rest_send : bigSep ((rd (F := F) x).duties (sendCell c) 0 \ ∅) (fun d => (rd (F := F) x).payload (sendCell c) 0 d) = sendPay x c := by
  rw [Finset.sdiff_empty, duties_send, bigSep_singleton, payload_send]
theorem rest_recv : bigSep ((rd (F := F) x).duties (recvCell c) 0 \ ∅) (fun d => (rd (F := F) x).payload (recvCell c) 0 d) = recvPay x c := by
  rw [Finset.sdiff_empty, duties_recv, bigSep_singleton, payload_recv]

end Sched

/-! ## What a device owes, and the levels -/

/-- After the transfer: the second meeting. -/
def O₂ (c : Dev nD) : CellTallies nD τ sig Bool := tallyAt (barCell (partner c)) true 1
/-- After the first meeting's signal: the transfer too. -/
def O₁ (c : Dev nD) : CellTallies nD τ sig Bool := O₂ c + tallyAt (recvCell (partner c)) false N
/-- At launch. -/
def O₀ (c : Dev nD) : CellTallies nD τ sig Bool := O₁ c + tallyAt (barCell (partner c)) false 1

def L (g : GSem nD τ sig) : Finset Bool := if g.1.2 = .tc then Finset.univ else ∅
/-- The first meeting is below the transfer, the transfer below the second meeting; every other wait is below all three. -/
def lv (g : GSem nD τ sig) (i : Bool) : ℕ :=
  if g.2 = .reg barS then (if i then 3 else 1) else if g.2 = .dma recvS then 2 else 0

theorem L_of_ne (g : GSem nD τ sig) (h : g.1.2 ≠ .tc) : L g = ∅ := if_neg h
theorem L_tc (c : Dev nD) (sm : SemLoc sig) (i : Bool) : i ∈ L ((c : Thread nD τ), sm) := by
  unfold L; rw [if_pos rfl]; exact Finset.mem_univ _

theorem lv_bar (c : Dev nD) (i : Bool) : lv (barCell c) i = if i then 3 else 1 := if_pos rfl
theorem lv_recv (c : Dev nD) (i : Bool) : lv (recvCell c) i = 2 := by unfold lv; rw [if_neg recv_ne_bar, if_pos rfl]
theorem lv_other (c : Dev nD) (q : DmaSem sig) (hq : q ≠ recvS) (i : Bool) : lv ((c : Thread nD τ), .dma q) i = 0 := by
  unfold lv; rw [if_neg (fun h => by cases h), if_neg (fun h => hq (SemLoc.dma.inj h))]

/-- An owed unit is at or above level `b`. -/
def Above (b : ℕ) (O : CellTallies nD τ sig Bool) : Prop := ∀ g u, 0 < O g u → u ∈ L g ∧ b < lv g u

theorem above_zero (b : ℕ) : Above b 0 := fun g u h => absurd h (Nat.lt_irrefl 0)
theorem above_at {b n : ℕ} {c : Dev nD} {sm : SemLoc sig} {i : Bool} (h : b < lv ((c : Thread nD τ), sm) i) :
    Above b (tallyAt ((c : Thread nD τ), sm) i n) := fun g u hg => by
  rw [tallyAt_apply] at hg
  by_cases h' : g = ((c : Thread nD τ), sm) ∧ u = i
  · obtain ⟨rfl, rfl⟩ := h'; exact ⟨L_tc c sm _, h⟩
  · rw [if_neg h'] at hg; exact absurd hg (Nat.lt_irrefl 0)
theorem above_add {b : ℕ} {O O' : CellTallies nD τ sig Bool} (h : Above b O) (h' : Above b O') : Above b (O + O') := fun g u hg => by
  rw [Pi.add_apply, Finsupp.add_apply] at hg
  rcases Nat.eq_zero_or_pos (O g u) with h0 | h0
  · exact h' g u (by omega)
  · exact h g u h0

theorem above_O₂ {b : ℕ} (hb : b < 3) (c : Dev nD) : Above b (O₂ c) := above_at (by rw [lv_bar]; exact hb)
theorem above_O₁ {b : ℕ} (hb : b < 2) (c : Dev nD) : Above b (O₁ c) :=
  above_add (above_O₂ (by omega) c) (above_at (by rw [lv_recv]; exact hb))
theorem above_O₀ (c : Dev nD) : Above 0 (O₀ c) := above_add (above_O₁ (by decide) c) (above_at (by rw [lv_bar]; decide))

omit [FloatOps F] in
theorem mayWait (c : Dev nD) (sm : SemLoc sig) (i : Bool) {b : ℕ} {O : CellTallies nD τ sig Bool} (hb : lv ((c : Thread nD τ), sm) i ≤ b) (hO : Above b O) :
    (levAts L lv : sProp 𝕄) ⊢ MayWait (c : Thread nD τ) sm i O :=
  MayOwe.of_cut (L := L) (lev := lv) b (fun p hp => by rw [Finset.mem_singleton.mp hp]; exact L_tc c sm i)
    (fun g u hg => (hO g u hg).1) (fun p hp => by rw [Finset.mem_singleton.mp hp]; exact hb) (fun g u hg => (hO g u hg).2)

end Cert.KernelIdeal.Top
-- ==== Proof.Body.lean ====
/-
The kernel's body on one device, from what the launch gives it to the merged columns in its output buffer: the first block's
copy, the first meeting, the loop that finds the columns, the exchange, the loop that merges, the second meeting.
-/
module

public import proofs.«01_k».proof.Proof.Protocol

@[expose] public section

set_option maxRecDepth 16384

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## The buffers -/

abbrev aM : Memref sig .tc .hbm S1024x8192 .f32 := Memref.whole main_arg0
abbrev oM : Memref sig .tc .vmem S1024x32 .f32 := Memref.whole cc0_stg0_0
abbrev bM : Memref sig .tc .vmem S2x256x8192 .f32 := Memref.whole cc0_scratch0
abbrev copyS : DmaSems sig S2 := cc0_scratch3

omit [FloatOps F] in
theorem slot_rest : (Finset.univ : Finset (bM : Memref sig .tc .vmem S2x256x8192 .f32).view.ty.Idx) \ slotS bM 0 = slotS bM 1 := by
  unfold slotS
  rw [show ((bM : Memref sig .tc .vmem S2x256x8192 .f32).view.slice (slotR 0)).set = (slotR 0).set from View.set_slice_whole _ _,
    show ((bM : Memref sig .tc .vmem S2x256x8192 .f32).view.slice (slotR 1)).set = (slotR 1).set from View.set_slice_whole _ _]
  ext i
  have h0 : (i 0).val < 2 := (i 0).isLt
  have h1 : (i 1).val < 256 := (i 1).isLt
  have h2 : (i 2).val < 8192 := (i 2).isLt
  rw [Finset.mem_sdiff, Rect.mem_set_unit, Rect.mem_set_unit]
  constructor
  · rintro ⟨-, h⟩
    have hi : (i 0).val = 1 := by
      by_contra hn
      exact h (fun a => by
        fin_cases a
        · exact ⟨Nat.zero_le _, show (i 0).val < 0 + 1 by omega⟩
        · exact ⟨Nat.zero_le _, show (i 1).val < 0 + 256 by omega⟩
        · exact ⟨Nat.zero_le _, show (i 2).val < 0 + 8192 by omega⟩)
    intro a
    fin_cases a
    · exact ⟨show 1 ≤ (i 0).val by omega, show (i 0).val < 1 + 1 by omega⟩
    · exact ⟨Nat.zero_le _, show (i 1).val < 0 + 256 by omega⟩
    · exact ⟨Nat.zero_le _, show (i 2).val < 0 + 8192 by omega⟩
  · intro h
    have h' : 1 ≤ (i 0).val := (h 0).1
    refine ⟨Finset.mem_univ _, fun hn => ?_⟩
    have h'' : (i 0).val < 0 + 1 := (hn 0).2
    omega

theorem slots_split (c : Dev nD) (f : Buf (Elt F) ((c : Thread nD τ).loc cc0_scratch0)) :
    (((c : Thread nD τ).loc cc0_scratch0) ↦{fullShare} f : sProp 𝕄) ⊢ iprop(slotAny c bM (par 0) ∗ slotAny c bM (par 1)) := by
  refine ((pointsTo_split_subset (Finset.subset_univ (slotS bM 0))).1).trans ?_
  unfold slotAny
  iintro ⟨H0, H1⟩
  isplitl [H0]
  · iexists f; iexact H0
  · iexists f; iapply (Entails.of_eq (congrArg (fun S => (((c : Thread nD τ).loc cc0_scratch0) ↦[S]{fullShare} f : sProp 𝕄)) slot_rest)); iexact H1

theorem slots_join (c : Dev nD) :
    iprop(slotAny c bM (par 0) ∗ slotAny c bM (par 1))
      ⊢ (iprop(∃ f, ((c : Thread nD τ).loc cc0_scratch0) ↦{fullShare} f) : sProp 𝕄) := by
  unfold slotAny
  iintro ⟨⟨%f, H0⟩, ⟨%g, H1⟩⟩
  rw [show par 1 = 1 from rfl]
  ihave H1' := (Entails.of_eq (congrArg (fun S => (((c : Thread nD τ).loc cc0_scratch0) ↦[S]{fullShare} g : sProp 𝕄)) slot_rest.symm)) $$ H1
  iexists _
  iapply (pointsTo_join_subset (Finset.subset_univ (slotS bM 0)))
  isplitl [H0]; · iexact H0
  iexact H1'

/-! ## What the body starts from and leaves -/

variable (X : (c : Dev nD) → Buf (Elt F) ((c : Thread nD τ).loc main_arg0))

/-- A device's rows. -/
def rows (c : Dev nD) : Vec F S1024x8192 .f32 := (aM : Memref sig .tc .hbm S1024x8192 .f32).view.read (Elt F) (X c)

/-- What the kernel leaves in device `c`'s output buffer. -/
def outOf (c : Dev nD) : Vec F S1024x32 .f32 := mergeOf (sendOf (rows X c)) (sendOf (rows X (partner c)))

/-- The invariants device `c` opens: those of its three cells and of its partner's barrier and receive cells. -/
def invs (K : Dev nD × Fin 3 → ℕ) (c : Dev nD) : sProp 𝕄 :=
  iprop(cellInv ER (rd (rows X)) (K (c, 0)) (barCell c) ∗ cellInv ER (rd (rows X)) (K (c, 1)) (sendCell c) ∗ cellInv ER (rd (rows X)) (K (c, 2)) (recvCell c)
    ∗ cellInv ER (rd (rows X)) (K (partner c, 0)) (barCell (partner c)) ∗ cellInv ER (rd (rows X)) (K (partner c, 2)) (recvCell (partner c)))

instance invs_persistent (K : Dev nD × Fin 3 → ℕ) (c : Dev nD) : BI.Persistent (invs X K c) := by unfold invs; infer_instance

/-- Those, its positions, what it knows reached, the tokens of the duties it pays, and its copies' semaphores at zero. -/
def ghost (K : Dev nD × Fin 3 → ℕ) (c : Dev nD) : sProp 𝕄 :=
  iprop(invs X K c
    ∗ (atPos ER (barCell c) 0 ∅ 0 ∗ atPos ER (sendCell c) 0 ∅ 0 ∗ atPos ER (recvCell c) 0 ∅ 0)
    ∗ (reached ER (barCell (partner c)) 0 ∗ reached ER (sendCell c) 0 ∗ reached ER (recvCell c) 0)
    ∗ (dutyTok ER (barCell (partner c)) 0 false ∗ dutyTok ER (barCell (partner c)) 1 false ∗ dutyTok ER (recvCell (partner c)) 0 false
      ∗ dutyTok ER (sendCell c) 0 false)
    ∗ (semZero c copyS (par 0) ∗ semZero c copyS (par 1)))

/-- What other devices owe device `c`. -/
def due (c : Dev nD) : sProp 𝕄 :=
  iprop(cred (tallyAt (barCell c) false 1) ∗ cred (tallyAt (barCell c) true 1) ∗ cred (tallyAt (recvCell c) false N))

def start (c : Dev nD) : sProp 𝕄 :=
  iprop((∃ K, ghost X K c) ∗ due c ∗ levAts L lv ∗ rowsAt c aM (X c))

/-- The scratch buffers. -/
def scratch (c : Dev nD) : sProp 𝕄 :=
  iprop((slotAny c bM (par 0) ∗ slotAny c bM (par 1)) ∗ Any c sM ∗ Any c rM)

def Φ₀ (c : Dev nD) : sProp 𝕄 := iprop(start X c ∗ scratch c)
def Φ₁ (c : Dev nD) : sProp 𝕄 :=
  iprop(rowsAt c aM (X c) ∗ scratch c
    ∗ (semZero c copyS (par 0) ∗ semZero c copyS (par 1) ∗ semVal (sendCell c) 0 ∗ semVal (recvCell c) 0) ∗ semVal (barCell c) 0)

/-! ## The steps between devices -/

variable (K : Dev nD × Fin 3 → ℕ)

theorem wp_exchange (c n : Dev nD) (hn : n = partner c) {hsc : (rM : Memref sig (Dev.tc n : Thread nD τ).2.kind .vmem S1024x32 .f32).view.ref.isScScratch = false}
    {hsrc : (sM : Memref sig .tc .vmem S1024x32 .f32).view.WordExact} {hdst : (rM : Memref sig .tc .vmem S1024x32 .f32).view.WordExact}
    {hsem : DmaTarget.Typed .vmem (.dma recvS) (.remote (Dev.tc n : Thread nD τ) (rM : Memref sig .tc .vmem S1024x32 .f32) (.dma sendS) hsc)}
    {α : Type} {Q : α → sProp 𝕄} {k : PUnit → Prog (TpuEff nD τ sig (Elt F) Λ₀ .tc) α} (W : Waits sig Bool) :
    iprop(cellInv ER (rd (rows X)) (K (c, 1)) (sendCell c) ∗ cellInv ER (rd (rows X)) (K (partner c, 2)) (recvCell (partner c))
        ∗ Held c sM (sendOf (rows X c)) ∗ Any (partner c) rM ∗ reached ER (barCell c) 1
        ∗ owes (c : Thread nD τ) (O₁ c) W
        ∗ dutyTok ER (sendCell c) 0 false ∗ reached ER (sendCell c) 0
        ∗ dutyTok ER (recvCell (partner c)) 0 false ∗ reached ER (recvCell (partner c)) 0)
      ⊢ iprop(((cred (tallyAt (sendCell c) false N) ∗ owes (c : Thread nD τ) (O₂ c) W) -∗ Wp c (k ⟨⟩) Q)
          -∗ Wp c (.op (.enqueueDma sM (.remote (Dev.tc n : Thread nD τ) rM (.dma sendS) hsc) (.dma recvS) hsrc hdst hsem) k) Q) := by
  subst hn
  unfold Held Any
  iintro ⟨HI1, HI2, ⟨%g, Hs, %hg⟩, ⟨%f, Hr⟩, HB, HO, HtS, HrS, HtV, HrV⟩
  iapply (Rounds.wp_send_pointsTo_with 𝒱₀ ER (rd (rows X)) (c : Thread nD τ) none (κ₁ := K (c, 1)) (κ₂ := K (partner c, 2))
    (r₁ := 0) (r₂ := 0) (d₁ := false) (d₂ := false) (fd := f) (fs := g) (q := fullShare) (F := reached ER (barCell c) 1)
    (by rw [duties_send]; exact Finset.mem_singleton_self _) (by rw [duties_recv]; exact Finset.mem_singleton_self _)
    false false N rfl (amount_send (rows X) c 0 false) (amount_recv (rows X) (partner c) 0 false) (O₂ c) rfl (W := W)
    (by
      rw [payload_send]; unfold sendPay Held
      iintro H; iexists g; isplitl [H]; · iexact H
      ipureintro; exact hg)
    (by
      rw [payload_recv]; unfold recvPay Held; rw [partner_partner]
      iintro ⟨H, HB⟩
      isplitl [H]
      · iexists _; isplitl [H]; · iexact H
        ipureintro; rw [View.read_write_univ]; exact hg
      · iexact HB)) $$ [HI1 HI2 Hs Hr HB HO HtS HrS HtV HrV]
  isplitl [HI1]; · iexact HI1
  isplitl [HI2]; · iexact HI2
  isplitl [Hs]; · iexact Hs
  isplitl [Hr HB]
  · isplitl [Hr] <;> iassumption
  isplitl [HO]; · iexact HO
  isplitl [HtS]; · iexact HtS
  isplitl [HrS]; · iexact HrS
  isplitl [HtV] <;> iassumption

theorem trips1 : k0_t1_loop.trips = 4 := by decide +kernel
theorem trips2 : k0_t2_loop.trips = 4 := by decide +kernel

def bodyPre (c : Dev nD) : sProp 𝕄 :=
  iprop((ghost X K c ∗ due c ∗ levAts L lv ∗ rowsAt c aM (X c) ∗ scratch c) ∗ (∃ W, owes (c : Thread nD τ) (O₀ c) W) ∗ Any c oM)

def bodyPost (c : Dev nD) : sProp 𝕄 :=
  iprop(Φ₁ X c ∗ (∃ W, owes (c : Thread nD τ) 0 W) ∗ Held c oM (outOf X c))

set_option maxHeartbeats 1600000 in
theorem sound_body (c : Dev nD) (Kt : PUnit → sProp 𝕄) :
    iprop(bodyPre X K c ∗ (bodyPost X c -∗ Kt ⟨⟩))
      ⊢ Wp c (cc0_body aM (Memref.isWhole_whole _) oM (Memref.isWhole_whole _) bM (Memref.isWhole_whole _)
          sM (Memref.isWhole_whole _) rM (Memref.isWhole_whole _) cc0_scratch3 cc0_scratch4 cc0_scratch5) Kt := by
  rw [cc0_body_eq_skeleton]; unfold cc0_body_skel
  rw [k0_part34_eq_skeleton]; unfold k0_part34_skel
  simp only [semSignalWord, semWaitWord, Prog.lift, Prog.bind_op, Prog.bind_ret, Prog.pure_eq_ret, Prog.bind_assoc, wp_deviceId]
  unfold bodyPre ghost invs due scratch
  iintro ⟨⟨⟨⟨⟨#HIbar, #HIsnd, #HIrcv, #HIbarP, #HIrcvP⟩, ⟨HatB, HatS, HatV⟩, ⟨#HrBP, #HrS, #HrV⟩, ⟨HtB0, HtB1, HtV, HtS⟩, ⟨HZ0, HZ1⟩⟩,
    ⟨HcB0, HcB1, HcV⟩, #Hlev, HX, ⟨⟨HS0, HS1⟩, Hsnd, Hrcv⟩⟩, ⟨%W0, HO⟩, Hout⟩, Hk⟩
  -- the first block's copy
  iapply (wp_start c aM bM cc0_scratch3 ⟨0, by decide⟩ rfl rfl rfl) $$ [HX HS0 HZ0]
  · isplitl [HX]; · iexact HX
    isplitl [HS0] <;> iassumption
  iintro HF
  -- the first meeting
  simp only [dev1_eq c]
  unfold O₀
  iapply (Rounds.wp_signal 𝒱₀ ER (rd (rows X)) (c : Thread nD τ) none (dst := (partner c : Thread nD τ)) (κ := K (partner c, 0))
      (d := false) (by rw [duties_bar _ _ (by decide)]; exact Finset.mem_singleton_self _) ((amount_bar (rows X) (partner c) 0 false).trans (by decide)) false (O₁ c) rfl)
    $$ [HO HtB0 Hrcv]
  · isplitr; · iexact HIbarP
    isplitl [HO]; · iexact HO
    isplitl [HtB0]; · iexact HtB0
    isplitl [Hrcv]
    · rw [payload_bar0]; unfold barPay; rw [partner_partner]
      isplitl [Hrcv]; · iexact Hrcv
      iexact HrV
    iexact HrBP
  iintro HO
  iapply (Rounds.wp_wait_rest_token 𝒱₀ ER (rd (rows X)) (c : Thread nD τ) none (κ := K (c, 0))
      (wpE_semWait_eq 𝒱₀ (c : Thread nD τ) none Set.univ) (Set.mem_univ _) false (O := O₁ c) (W := W0) (R := 0) (m := 0) (T := ∅)
      (by rw [expect_bar _ _ (by decide)]; decide)) $$ [HcB0 HO HatB]
  · isplitr; · iexact HIbar
    isplitl [HcB0]; · iexact HcB0
    isplitl [HO]; · iexact HO
    isplitr; · iapply (mayWait c (.reg barS) false (b := 1) (by rw [lv_bar]; decide) (above_O₁ (by decide) c)); iexact Hlev
    iexact HatB
  iintro ⟨HO, HatB, #HrB1, Hpay⟩
  ihave Hp := (Entails.of_eq (rest_bar0 (rows X) c)) $$ Hpay
  unfold barPay
  icases Hp with ⟨HrcvP, #HrVP⟩
  -- the loop that finds the columns
  iapply (Scf.wp_for_bind frame (wpE (defs₀ (F := F)) 𝒱₀ (c : Thread nD τ) none) Set.univ _ _ _ _ _ _
      (fun k _ => iprop(Inv1 c aM bM sM cc0_scratch3 (X c) (O₁ c) k ∗ levAts L lv))
      (fun t _ => trip1 c aM _ oM _ bM _ sM _ rM _ cc0_scratch3 cc0_scratch4 cc0_scratch5 (X c) (O₁ c) t
        (fun u => mayWait c (.dma (semOf cc0_scratch3 u)) false (b := 0)
          (by rw [lv_other c _ (by revert u; decide)]) (above_O₁ (by decide) c)))) $$ [HF HS1 HZ1 Hsnd HO]
  · isplitl
    · unfold Inv1
      isplitl [HF HS1 HZ1]
      · unfold Ready; rw [dif_pos (by decide)]
        isplitl [HF]; · iexact HF
        isplitl [HS1] <;> iassumption
      isplitl [Hsnd]
      · unfold Any Cols
        icases Hsnd with ⟨%f, Hsnd⟩
        iexists f; isplitl [Hsnd]; · iexact Hsnd
        ipureintro; intro y hy; omega
      iexists _; iexact HO
    · iexact Hlev
  iintro %u ⟨HI, -⟩
  rw [show Scf.trips k0_t1_loop.lb k0_t1_loop.ub k0_t1_loop.st = 4 from trips1]
  unfold Inv1 Ready
  rw [dif_neg (by decide)]
  icases HI with ⟨⟨HX, HS0, HZ0, HS1, HZ1⟩, Hsnd, ⟨%W1, HO⟩⟩
  have hfull : ∀ (M : Memref sig .tc .vmem S1024x32 .f32) (G : Vec F S1024x32 .f32), Cols c M G 4 0 ⊢ Held c M G := fun M G => by
    unfold Cols Held
    iintro ⟨%g, H, %hg⟩
    iexists g; isplitl [H]; · iexact H
    ipureintro
    exact funext fun y => hg y (Or.inl (by have : (y 0).val < 1024 := (y 0).isLt; omega))
  ihave Hsnd := (hfull _ _) $$ Hsnd
  -- the exchange
  iapply (wp_exchange X K c _ (dev2_eq c) W1) $$ [Hsnd HrcvP HO HtS HtV]
  · isplitr; · iexact HIsnd
    isplitr; · iexact HIrcvP
    isplitl [Hsnd]; · iexact Hsnd
    isplitl [HrcvP]; · iexact HrcvP
    isplitr; · iexact HrB1
    isplitl [HO]; · iexact HO
    isplitl [HtS]; · iexact HtS
    isplitr; · iexact HrS
    isplitl [HtV]; · iexact HtV
    iexact HrVP
  iintro ⟨HcS, HO⟩
  iapply (Rounds.wp_wait_rest_token 𝒱₀ ER (rd (rows X)) (c : Thread nD τ) none (κ := K (c, 1))
      (wpE_waitDma2_eq 𝒱₀ (c : Thread nD τ) none Set.univ) (Set.mem_univ _) false (O := O₂ c) (W := W1) (R := 0) (m := 0) (T := ∅)
      (by rw [Nat.zero_add, expect_send])) $$ [HcS HO HatS]
  · isplitr; · iexact HIsnd
    isplitl [HcS]; · iexact HcS
    isplitl [HO]; · iexact HO
    isplitr; · iapply (mayWait c (.dma sendS) false (b := 0) (by rw [lv_other c _ (by decide)]) (above_O₂ (by decide) c)); iexact Hlev
    iexact HatS
  iintro ⟨HO, HatS, -, Hpay⟩
  ihave Hsnd := (Entails.of_eq (rest_send (rows X) c)) $$ Hpay
  iapply (Rounds.wp_wait_rest_token 𝒱₀ ER (rd (rows X)) (c : Thread nD τ) none (κ := K (c, 2))
      (wpE_waitDma2_eq 𝒱₀ (c : Thread nD τ) none Set.univ) (Set.mem_univ _) false (O := O₂ c)
      (R := 0) (m := 0) (T := ∅) (by rw [Nat.zero_add, expect_recv])) $$ [HcV HO HatV]
  · isplitr; · iexact HIrcv
    isplitl [HcV]; · iexact HcV
    isplitl [HO]; · iexact HO
    isplitr; · iapply (mayWait c (.dma recvS) false (b := 2) (le_of_eq (lv_recv c false)) (above_O₂ (by decide) c)); iexact Hlev
    iexact HatV
  iintro ⟨HO, HatV, -, Hpay⟩
  ihave Hp := (Entails.of_eq (rest_recv (rows X) c)) $$ Hpay
  unfold recvPay sendPay
  icases Hp with ⟨Hrcv, #HrBP1⟩
  -- the loop that merges
  iapply (Scf.wp_for_bind frame (wpE (defs₀ (F := F)) 𝒱₀ (c : Thread nD τ) none) Set.univ _ _ _ _ _ _
      (fun k _ => Inv2 c oM sM rM (sendOf (rows X c)) (sendOf (rows X (partner c))) k)
      (fun t _ => trip2 c aM _ oM _ bM _ sM _ rM _ cc0_scratch3 cc0_scratch4 cc0_scratch5 t)) $$ [Hsnd Hrcv Hout]
  · unfold Inv2
    isplitl [Hsnd]; · iexact Hsnd
    isplitl [Hrcv]; · iexact Hrcv
    unfold Any Cols
    icases Hout with ⟨%f, Hout⟩
    iexists f; isplitl [Hout]; · iexact Hout
    ipureintro; intro y hy; omega
  iintro %u2 HI
  rw [show Scf.trips k0_t2_loop.lb k0_t2_loop.ub k0_t2_loop.st = 4 from trips2]
  unfold Inv2
  icases HI with ⟨Hsnd, Hrcv, Hout⟩
  ihave Hout := (hfull _ _) $$ Hout
  ihave Hsnd := (held_any c _ _) $$ Hsnd
  ihave Hrcv := (held_any c _ _) $$ Hrcv
  -- the second meeting
  simp only [dev3_eq c]
  unfold O₂
  iapply (Rounds.wp_signal 𝒱₀ ER (rd (rows X)) (c : Thread nD τ) none (dst := (partner c : Thread nD τ)) (κ := K (partner c, 0))
      (r := 1) (d := false) (by rw [duties_bar _ _ (by decide)]; exact Finset.mem_singleton_self _) ((amount_bar (rows X) (partner c) 1 false).trans (by decide)) true 0
      (by rw [zero_add]))
    $$ [HO HtB1]
  · isplitr; · iexact HIbarP
    isplitl [HO]; · iexact HO
    isplitl [HtB1]; · iexact HtB1
    isplitr; · rw [payload_bar1]; iempintro
    iexact HrBP1
  iintro HO
  iapply (Rounds.wp_wait_rest_token 𝒱₀ ER (rd (rows X)) (c : Thread nD τ) none (κ := K (c, 0))
      (wpE_semWait_eq 𝒱₀ (c : Thread nD τ) none Set.univ) (Set.mem_univ _) true (O := 0) (R := 1) (m := 0) (T := ∅)
      (by rw [expect_bar _ _ (by decide)]; decide)) $$ [HcB1 HO HatB]
  · isplitr; · iexact HIbar
    isplitl [HcB1]; · iexact HcB1
    isplitl [HO]; · iexact HO
    isplitr; · rw [MayWait_zero]; iempintro
    iexact HatB
  iintro ⟨HO, HatB, -, -⟩
  -- the cells close
  imod (Rounds.cell_close ER (rd (rows X)) (Set.mem_univ (K (c, 1))) (fun h => h) (R := 0 + 1) (send_over (rows X) c)) $$ [HatS] with HzS
  · isplitr; · iexact HIsnd
    iexact HatS
  imod (Rounds.cell_close ER (rd (rows X)) (Set.mem_univ (K (c, 2))) (fun h => h) (R := 0 + 1) (recv_over (rows X) c)) $$ [HatV] with HzV
  · isplitr; · iexact HIrcv
    iexact HatV
  imod (Rounds.cell_close ER (rd (rows X)) (Set.mem_univ (K (c, 0))) (fun h => h) (R := 1 + 1) (bar_over (rows X) c)) $$ [HatB] with HzB
  · isplitr; · iexact HIbar
    iexact HatB
  rw [wp_ret]; imodintro
  iapply Hk
  unfold bodyPost Φ₁ scratch
  isplitr [HO Hout]
  · isplitl [HX]; · iexact HX
    isplitl [HS0 HS1 Hsnd Hrcv]
    · isplitl [HS0 HS1]
      · isplitl [HS0]; · iexact HS0
        iexact HS1
      isplitl [Hsnd] <;> iassumption
    isplitr [HzB]
    · isplitl [HZ0]; · iexact HZ0
      isplitl [HZ1]; · iexact HZ1
      isplitl [HzS] <;> iassumption
    iexact HzB
  isplitl [HO]; · iexists _; iexact HO
  iexact Hout

end Cert.KernelIdeal.Top
-- ==== Proof.Launch.lean ====
/-
The launch: what each device is handed — its cells, the tokens of the duties it pays, the credit for what its partner owes
it — and the run from it: the output is `outOf` of the two devices' rows, the argument is unchanged, every semaphore is zero.
-/
module

public import proofs.«01_k».proof.Proof.Body
public import Idealize.ShloMosaic.Lib.Pipeline.CollectiveSegs
public import Idealize.ShloMosaic.Lib.Quiescent

@[expose] public section

set_option maxRecDepth 16384

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-- The argument buffers at launch. -/
abbrev argOf (c : Dev nD) : Buf (Elt F) ((c : Thread nD τ).loc main_arg0) := m ((c : Thread nD τ).loc main_arg0)

/-- The schedule at a memory's argument buffers. -/
abbrev sched : Rounds.Schedule (GSem nD τ sig) Bool 𝕄 := rd (rows (argOf m))

/-! ## The pipeline's proof data and its body obligation -/

def dats (_ : Fin 1) (c : Dev nD) : Dat τ (Elt F) Bool ℕ UU ℕ cfg0 c where
  A w := m ((cfg0.win w).arr.view.loc (c : Thread nD τ))
  after w _ := match w with
    | ⟨0, _⟩ => outOf (argOf m) c
  Φ t := match t with
    | ⟨0, _⟩ => Φ₀ (argOf m) c
    | ⟨_ + 1, _⟩ => Φ₁ (argOf m) c
  q _ := fullShare
  owed t := match t with
    | ⟨0, _⟩ => O₀ c
    | ⟨_ + 1, _⟩ => 0

attribute [local irreducible] outOf Φ₀ Φ₁

theorem body_obligation (c : Dev nD) : BodyObligation (dats (F := F) m 0 c) (defs₀ (F := F)) 𝒱₀ false Set.univ := fun t => by
  rw [fin_N0 t]
  rw [bigSep_W0, bigSep_W0]
  show iprop(Φ₀ (argOf m) c ∗ (dats m 0 c).owesAt false (Fin.castSucc t0_0)
      ∗ ∃ d, owns (c : Thread nD τ) oM fullShare ((dats m 0 c).before (0 : Fin 1) t0_0 d))
    ⊢ Wp c (cc0_body aM (Memref.isWhole_whole _) oM (Memref.isWhole_whole _) bM (Memref.isWhole_whole _)
        sM (Memref.isWhole_whole _) rM (Memref.isWhole_whole _) cc0_scratch3 cc0_scratch4 cc0_scratch5)
      fun _ => iprop(Φ₁ (argOf m) c ∗ (dats m 0 c).owesAt false (Fin.succ t0_0)
        ∗ owns (c : Thread nD τ) oM fullShare (outOf (argOf m) c))
  unfold Φ₀ start
  iintro ⟨⟨⟨⟨%K, Hg⟩, Hdue, Hlev, HX⟩, Hscr⟩, Ho, %d, Hout⟩
  iapply (sound_body (argOf m) K c _)
  unfold bodyPre
  isplitl
  · isplitl [Hg Hdue Hlev HX Hscr]
    · isplitl [Hg]; · iexact Hg
      isplitl [Hdue]; · iexact Hdue
      isplitl [Hlev]; · iexact Hlev
      isplitl [HX] <;> iassumption
    isplitl [Ho]
    · unfold Dat.owesAt Pipeline.owesWithin
      rw [show (dats m 0 c).owed (Fin.castSucc t0_0) = O₀ c from rfl]
      icases Ho with ⟨%W, -, Ho⟩
      iexists W; iexact Ho
    · unfold owns Any
      icases Hout with ⟨%f, -, Hout⟩
      iexists f; iexact Hout
  · unfold bodyPost
    iintro ⟨HΦ, ⟨%W, HO⟩, Hout⟩
    isplitl [HΦ]; · iexact HΦ
    isplitl [HO]
    · unfold Dat.owesAt Pipeline.owesWithin
      rw [show (dats m 0 c).owed (Fin.succ t0_0) = 0 from rfl]
      iexists W
      isplitr; · ipureintro; exact fun _ _ => Or.inl trivial
      iexact HO
    · unfold Held owns
      icases Hout with ⟨%g, Hout, %hg⟩
      iexists g
      isplitr; · ipureintro; exact hg
      iexact Hout

/-! ## The cells and their tokens -/

abbrev osem : Fin 4 → SemLoc sig :=
  fun | 0 => .dma (semOf copyS 0) | 1 => .dma (semOf copyS 1) | 2 => .dma sendS | 3 => .dma recvS

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 3 → GSem nD τ sig) := by
  rintro ⟨c, k⟩ ⟨c', k'⟩ h
  have h1 : c = c' := congrArg (fun g : GSem nD τ sig => g.1.1) h
  have h2 : k = k' := csem_injective (congrArg Prod.snd h)
  rw [h1, h2]

def topCells : Finset (GSem nD τ sig) := Finset.univ.map ⟨kcell, kcell_injective⟩

/-- The duties paid to a device's own cells: the two meetings, its transfer's two ends. -/
abbrev dutyOf : Fin 4 → Fin 3 × ℕ := fun | 0 => (0, 0) | 1 => (0, 1) | 2 => (1, 0) | 3 => (2, 0)
theorem dutyOf_injective : Function.Injective dutyOf := by decide
abbrev tokOf (cj : Dev nD × Fin 4) : GSem nD τ sig × ℕ × Bool := (kcell (cj.1, (dutyOf cj.2).1), (dutyOf cj.2).2, false)
theorem tokOf_injective : Function.Injective (tokOf : Dev nD × Fin 4 → GSem nD τ sig × ℕ × Bool) := by
  rintro ⟨c, j⟩ ⟨c', j'⟩ h
  have h1 := kcell_injective (congrArg Prod.fst h)
  have h2 : (dutyOf j).2 = (dutyOf j').2 := congrArg (fun x : GSem nD τ sig × ℕ × Bool => x.2.1) h
  have h3 : c = c' := congrArg Prod.fst h1
  have h4 : (dutyOf j).1 = (dutyOf j').1 := congrArg Prod.snd h1
  rw [h3, dutyOf_injective (Prod.ext h4 h2)]
def topToks : Finset (GSem nD τ sig × ℕ × Bool) := Finset.univ.map ⟨tokOf, tokOf_injective⟩

def u₀ : UU :=
  (initOf (Pipeline.cells cfgs cellOf_inj) (Pipeline.launchToks cfgs cellOf_inj), (initOf topCells topToks, 1))

omit [FloatOps F] in
theorem ownU_split (a : UR sig nD τ) (b : UB) : (ownU ((a, (b, 1)) : UU) : sProp 𝕄) ⊢ iprop(BI.own (EP a) ∗ BI.own (ER b)) := by
  unfold ER
  exact BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- The tokens of a device's own cells. -/
def toks (c : Dev nD) : sProp 𝕄 :=
  iprop(dutyTok ER (barCell c) 0 false ∗ dutyTok ER (barCell c) 1 false ∗ dutyTok ER (sendCell c) 0 false ∗ dutyTok ER (recvCell c) 0 false)

/-- What a device is dealt at first. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What it holds once the cells are set up and the tokens exchanged. -/
def G' (c : Dev nD) : sProp 𝕄 := iprop(∃ K, ghost (argOf m) K c)

omit [FloatOps F] in
theorem over3 (Φ : Fin 3 → sProp 𝕄) : bigSep Finset.univ Φ = iprop(Φ 0 ∗ Φ 1 ∗ Φ 2) := bigSep_univ_eq_bigSepL [0, 1, 2] (by decide) (by decide) Φ
omit [FloatOps F] in
theorem over4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_top : BI.own (ER (initOf topCells topToks)) ⊢ (|==> bigSep Finset.univ (G m) : sProp 𝕄) := by
  have hX (Φ : GSem nD τ sig → sProp 𝕄) : bigSep topCells Φ = bigSep Finset.univ fun c : Dev nD => bigSep Finset.univ fun k : Fin 3 => Φ (kcell (c, k)) := by
    unfold topCells; rw [bigSep_map, bigSep_univ_prod]; rfl
  have hT : bigSep topToks (fun x => (dutyTok ER x.1 x.2.1 x.2.2 : sProp 𝕄)) = bigSep Finset.univ fun c : Dev nD => toks c := by
    unfold topToks; rw [bigSep_map, bigSep_univ_prod]
    exact bigSep_congr fun c _ => by unfold toks; rw [over4]; rfl
  iintro HX
  imod (Rounds.fund ER (sched m) topCells topToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Bool) (Name := ℕ) (U := UU) (Lvl := ℕ) (Val := Elt F) (τ := τ) osem c : sProp 𝕄)
    = iprop(semVal ((c : Thread nD τ), .dma (semOf copyS 0)) 0 ∗ semVal ((c : Thread nD τ), .dma (semOf copyS 1)) 0 ∗ semVal (sendCell c) 0 ∗ semVal (recvCell c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The copies' semaphores. -/
def idle (c : Dev nD) : sProp 𝕄 := iprop(semZero c copyS (par 0) ∗ semZero c copyS (par 1))

theorem sems0_eq (c : Dev nD) :
    iprop(Pipeline.ownSems0 (Ix := Bool) (Name := ℕ) (U := UU) (Lvl := ℕ) (Val := Elt F) (τ := τ) osem c ∗ unscopedSems0 c)
      ⊢ (iprop((bigSep Finset.univ fun k : Fin 3 => semVal (kcell (c, k)) 0) ∗ idle c) : sProp 𝕄) := by
  rw [ownSems0_eq, unscopedSems0_eq, over3]
  unfold idle semZero
  iintro ⟨⟨H0, H1, HS, HV⟩, HB⟩
  isplitl [HB HS HV]
  · isplitl [HB]; · iexact HB
    isplitl [HS] <;> iassumption
  isplitl [H0]; · iexact H0
  iexact H1

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hz⟩
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What every device may know: all invariants, and that every cell has reached round 0. -/
def known (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance known_persistent (K : Dev nD × Fin 3 → ℕ) : BI.Persistent (known m K) := by unfold known; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- The tokens of the duties a device pays. -/
def payToks (c : Dev nD) : sProp 𝕄 :=
  iprop(dutyTok ER (barCell (partner c)) 0 false ∗ dutyTok ER (barCell (partner c)) 1 false ∗ dutyTok ER (recvCell (partner c)) 0 false
    ∗ dutyTok ER (sendCell c) 0 false)
def own (c : Dev nD) : sProp 𝕄 :=
  iprop((atPos ER (barCell c) 0 ∅ 0 ∗ atPos ER (sendCell c) 0 ∅ 0 ∗ atPos ER (recvCell c) 0 ∅ 0) ∗ payToks c ∗ idle c)

theorem ghost_intro (K : Dev nD × Fin 3 → ℕ) (c : Dev nD) : iprop(known m K ∗ own c) ⊢ G' m c := by
  unfold known own payToks idle G' ghost invs
  iintro ⟨⟨#HI, #HR⟩, Hat, Htok, Hz⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (partner c, 0)); iexact HI
    iapply (inv_at m K (partner c, 2)); iexact HI
  isplitl [Hat]; · iexact Hat
  isplitr
  · isplitr; · iapply (reached_at (F := F) (partner c, 0)); iexact HR
    isplitr; · iapply (reached_at (F := F) (c, 1)); iexact HR
    iapply (reached_at (F := F) (c, 2)); iexact HR
  isplitl [Htok] <;> iassumption

omit [FloatOps F] in
/-- Partners exchange the tokens of their meetings and of their receive cells. -/
theorem toks_swapped : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 false : sProp 𝕄)),
    bigSep_univ_equiv swap (fun c : Dev nD => (dutyTok ER (barCell c) 1 false : sProp 𝕄)),
    bigSep_univ_equiv swap (fun c : Dev nD => (dutyTok ER (recvCell c) 0 false : sProp 𝕄))]
  iintro ⟨H1, H2, H3, H4⟩
  isplitl [H1]; · iexact H1
  isplitl [H2]; · iexact H2
  isplitl [H4]; · iexact H4
  iexact H3

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m) := by
  rw [bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hz⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_swapped (F := F)) $$ Htok
  iapply (bigSep_with (R := known m K) fun c _ => ghost_intro m K c)
  isplitr
  · unfold known; isplitl; · iexact HI
    iexact HR
  · have hown : (bigSep Finset.univ fun c : Dev nD => (own c : sProp 𝕄))
        = iprop((bigSep Finset.univ fun c : Dev nD => bigSep Finset.univ fun k : Fin 3 => (atPos ER (kcell (c, k)) 0 ∅ 0 : sProp 𝕄))
            ∗ (bigSep Finset.univ fun c : Dev nD => payToks c) ∗ bigSep Finset.univ fun c : Dev nD => idle c) := by
      rw [← bigSep_sep', ← bigSep_sep']
      exact bigSep_congr fun c _ => by unfold own; rw [over3]
    iapply (Entails.of_eq hown.symm)
    isplitl [Hat]; · iexact Hat
    isplitl [Htk] <;> iassumption

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the partner owes -/

theorem partner_eq_iff {a b : Dev nD} : a = partner b ↔ b = partner a :=
  ⟨fun h => by rw [h, partner_partner], fun h => by rw [h, partner_partner]⟩

theorem cell_eq_iff {a b : Dev nD} {q r : SemLoc sig} : (((a : Thread nD τ), q) : GSem nD τ sig) = ((b : Thread nD τ), r) ↔ a = b ∧ q = r :=
  ⟨fun h => ⟨congrArg (fun g : GSem nD τ sig => g.1.1) h, congrArg Prod.snd h⟩, fun ⟨h, h'⟩ => by rw [h, h']⟩

theorem owed_at (d c : Dev nD) (q : SemLoc sig) (i : Bool) :
    O₀ d ((c : Thread nD τ), q) i
      = if d = partner c then (if q = .reg barS then 1 else if q = .dma recvS ∧ i = false then N else 0) else 0 := by
  unfold O₀ O₁ O₂
  rw [Pi.add_apply, Finsupp.add_apply, Pi.add_apply, Finsupp.add_apply, tallyAt_apply, tallyAt_apply, tallyAt_apply]
  simp only [cell_eq_iff]
  by_cases h : d = partner c
  · have h' : c = partner d := partner_eq_iff.mp h
    rw [if_pos h]
    by_cases hq : q = .reg barS
    · subst hq
      cases i
      · rw [if_neg (fun h => by cases h.2), if_neg (fun h => recv_ne_bar h.1.2.symm), if_pos ⟨⟨h', rfl⟩, rfl⟩, if_pos rfl]
      · rw [if_pos ⟨⟨h', rfl⟩, rfl⟩, if_neg (fun h => by cases h.2), if_neg (fun h => by cases h.2), if_pos rfl]
    · rw [if_neg (fun h => hq h.1.2), if_neg (c := (c = partner d ∧ q = .reg barS) ∧ i = false) (fun h => hq h.1.2), if_neg hq]
      by_cases hr : q = .dma recvS ∧ i = false
      · rw [if_pos ⟨⟨h', hr.1⟩, hr.2⟩, if_pos hr]; omega
      · rw [if_neg (fun h => hr ⟨h.1.2, h.2⟩), if_neg hr]
  · have h' : ¬ c = partner d := fun hc => h (partner_eq_iff.mp hc)
    rw [if_neg h, if_neg (fun hh => h' hh.1.1), if_neg (fun hh => h' hh.1.1), if_neg (fun hh => h' hh.1.1)]

theorem launch_at (c : Dev nD) (q : SemLoc sig) (i : Bool) :
    launchCredit (Pipeline.owing O₀) 0 ((c : Thread nD τ), q) i = if q = .reg barS then 1 else if q = .dma recvS ∧ i = false then N else 0 := by
  rw [Pipeline.launchCredit_owing, Finset.sum_congr rfl fun d _ => owed_at d c q i,
    Finset.sum_ite_eq' Finset.univ (partner c) fun _ => _, if_pos (Finset.mem_univ _)]

theorem launch_bar (c : Dev nD) :
    tallyOn (barCell c) (launchCredit (Pipeline.owing O₀) 0 (barCell c))
      = (tallyAt (barCell c) false 1 + tallyAt (barCell c) true 1 : CellTallies nD τ sig Bool) := by
  funext g
  refine Finsupp.ext fun i => ?_
  rw [Pi.add_apply, Finsupp.add_apply, tallyAt_apply, tallyAt_apply]
  by_cases hg : g = barCell c
  · subst hg
    rw [tallyOn_self, launch_at, if_pos rfl]
    cases i
    · rw [if_pos ⟨rfl, rfl⟩, if_neg (fun h => by cases h.2)]
    · rw [if_neg (fun h => by cases h.2), if_pos ⟨rfl, rfl⟩]
  · rw [tallyOn_ne hg, if_neg (fun h => hg h.1), if_neg (fun h => hg h.1)]; rfl

theorem launch_recv (c : Dev nD) :
    tallyOn (recvCell c) (launchCredit (Pipeline.owing O₀) 0 (recvCell c)) = (tallyAt (recvCell c) false N : CellTallies nD τ sig Bool) := by
  funext g
  refine Finsupp.ext fun i => ?_
  rw [tallyAt_apply]
  by_cases hg : g = recvCell c
  · subst hg
    rw [tallyOn_self, launch_at, if_neg recv_ne_bar]
    cases i
    · rw [if_pos ⟨rfl, rfl⟩, if_pos ⟨rfl, rfl⟩]
    · rw [if_neg (fun h => by cases h.2), if_neg (fun h => by cases h.2)]
  · rw [tallyOn_ne hg, if_neg (fun h => hg h.1)]; rfl

omit [FloatOps F] in
theorem dues (c : Dev nD) : (Pipeline.launchCred O₀ c : sProp 𝕄) ⊢ due c := by
  unfold Pipeline.launchCred due
  rw [bigSep_univ_at _ (SemLoc.reg barS), launch_bar]
  iintro ⟨HB, HR⟩
  ihave HB := ((cred_add _ _).1) $$ HB
  icases HB with ⟨H0, H1⟩
  isplitl [H0]; · iexact H0
  isplitl [H1]; · iexact H1
  rw [← launch_recv]
  iapply (show (bigSep (Finset.univ.erase (SemLoc.reg barS)) fun sm : SemLoc sig => (cred (tallyOn ((c : Thread nD τ), sm) (launchCredit (Pipeline.owing O₀) 0 ((c : Thread nD τ), sm))) : sProp 𝕄))
      ⊢ cred (tallyOn (recvCell c) (launchCredit (Pipeline.owing O₀) 0 (recvCell c))) from bigSep_elim (Finset.mem_erase.mpr ⟨recv_ne_bar, Finset.mem_univ _⟩))
  iexact HR

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (argOf m) c ∗ emp) := by
  rw [Pipeline.unscopedRestP_none]
  rw [show (Pipeline.unscopedRest cfg0.spec c (fun b => m ((c : Thread nD τ).loc b)) : sProp 𝕄) = _ from unscopedRest0_eq c _]
  iintro ⟨HX, Hlev, Hcr, -, HG⟩
  ihave Hd := (dues (F := F) c) $$ Hcr
  imodintro
  unfold start G' rowsAt
  rw [show (aM : Memref sig .tc .hbm S1024x8192 .f32).view.set = Finset.univ from View.set_whole _]
  isplitl
  · isplitl [HG]; · iexact HG
    isplitl [Hd]; · iexact Hd
    isplitl [Hlev]; · iexact Hlev
    iexact HX
  · iempintro

theorem scratch_in (c : Dev nD) : (Pipeline.scopedRest cfg0.spec c : sProp 𝕄) ⊢ scratch c := by
  rw [show (Pipeline.scopedRest cfg0.spec c : sProp 𝕄) = _ from scopedRest0_eq c]
  unfold scratch Any
  rw [show (sM : Memref sig .tc .vmem S1024x32 .f32).view.set = Finset.univ from View.set_whole _,
    show (rM : Memref sig .tc .vmem S1024x32 .f32).view.set = Finset.univ from View.set_whole _]
  iintro ⟨⟨%f, Hb⟩, Hs, Hr⟩
  isplitl [Hb]; · iapply (slots_split c f); iexact Hb
  isplitl [Hs]; · iexact Hs
  iexact Hr

theorem scratch_out (c : Dev nD) : (scratch c : sProp 𝕄) ⊢ Pipeline.scopedRest cfg0.spec c := by
  rw [show (Pipeline.scopedRest cfg0.spec c : sProp 𝕄) = _ from scopedRest0_eq c]
  unfold scratch Any
  rw [show (sM : Memref sig .tc .vmem S1024x32 .f32).view.set = Finset.univ from View.set_whole _,
    show (rM : Memref sig .tc .vmem S1024x32 .f32).view.set = Finset.univ from View.set_whole _]
  iintro ⟨Hb, Hs, Hr⟩
  isplitl [Hb]; · iapply (slots_join c); iexact Hb
  isplitl [Hs]; · iexact Hs
  iexact Hr

theorem phi0_intro (c : Dev nD) :
    iprop(start (argOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (argOf m) c from rfl]
  unfold Φ₀
  iintro ⟨Hs, -, Hr⟩
  isplitl [Hs]; · iexact Hs
  iapply (scratch_in (F := F) c); iexact Hr

/-- What is left to read at the end. -/
def left' (c : Dev nD) : sProp 𝕄 := iprop(unscopedSems0 c ∗ rowsAt c aM (argOf m c))

theorem phi1_exit (c : Dev nD) :
    (dats m 0 c).Φ (Fin.last cfg0.N) ⊢ iprop(left' m c ∗ Pipeline.ownSems0 osem c ∗ Pipeline.scopedRest cfg0.spec c) := by
  rw [show (dats m 0 c).Φ (Fin.last cfg0.N) = Φ₁ (argOf m) c from rfl, ownSems0_eq]
  unfold Φ₁ left'
  rw [unscopedSems0_eq]
  unfold semZero
  iintro ⟨HX, Hscr, ⟨H0, H1, HS, HV⟩, HB⟩
  isplitl [HX HB]
  · isplitl [HB] <;> iassumption
  isplitl [H0 H1 HS HV]
  · isplitl [H0]; · iexact H0
    isplitl [H1]; · iexact H1
    isplitl [HS] <;> iassumption
  iapply (scratch_out (F := F) c); iexact Hscr

theorem waits (c : Dev nD) : (levAts L lv : sProp 𝕄) ⊢ Pipeline.cellsWaits cfgs (dats m) false 0 c :=
  Pipeline.cellsWaits_intro cfgs (dats m) false 0 c fun w s t =>
    mayWait c _ false (b := 0) (by rw [lv_other c _ (by fin_cases w <;> fin_cases s <;> decide)]) (by
      rcases t with ⟨_ | _, ht⟩
      · exact above_O₀ c
      · exact above_zero 0)

/-- At the end every unscoped counter reads zero and the argument is unchanged. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = argOf m c

theorem ends (c : Dev nD) (s' : Phys nD τ sig (Elt F)) :
    iprop(left' m c ∗ emp ∗ SI s') ⊢ (|={Set.univ}=> iprop(⌜Ends m c s'.mem⌝ ∗ SI s') : sProp 𝕄) := by
  unfold left' rowsAt
  iintro ⟨⟨Hu, HX⟩, -, HSI⟩
  ihave %hm := (SI_pointsTo_agree) $$ [HSI HX]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hm i (by rw [show (aM : Memref sig .tc .hbm S1024x8192 .f32).view.set = Finset.univ from View.set_whole _]; exact Finset.mem_univ _)⟩
  iexact HSI

/-! ## The run -/

theorem out_array (c : Dev nD) : (dats m 0 c).arrAt (0 : Fin 1) cfg0.N = outOf (argOf m) c := by
  have hr : (win0_0.blk (0 : Fin 1)).view.read (Elt F) ((dats m 0 c).arrAt (0 : Fin 1) cfg0.N) = outOf (argOf m) c := by
    rw [show cfg0.N = ((0 : Fin 1) : Fin cfg0.N).val + 1 from rfl, (dats m 0 c).arrAt_succ (0 : Fin 1) (0 : Fin 1)]
    rw [show (cfg0.win (0 : Fin 1)).flush (0 : Fin 1) = true from by decide +kernel, if_pos rfl]
    exact View.read_write_univ _ _
  have hz : (fun a => (win0_0.index (0 : Fin 1)) a * main_v1.ty.shape.size a) = fun _ => 0 := funext fun a => by fin_cases a <;> decide
  exact (Memref.read_access_unit_zero (Elt F) main_v1 hz (fun a => by fin_cases a <;> decide) _).symm.trans hr

theorem run_main : θ_run defs (onTc (τ := τ) (main (F := F))) ⟨m, fun _ => 0, ρ⟩ (fun r =>
    (∀ c : Dev nD, r.2.mem ((c : Thread nD τ).loc main_v1) = outOf (argOf m) c
      ∧ r.2.mem ((c : Thread nD τ).loc main_arg0) = argOf m c) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_top m) $$ HX with HG
      imodintro
      isplitl [HP] <;> iassumption)
    (hglob := glob m)
    (hA := fun _ _ => rfl) (hpf := fun _ k => k.elim0)
    (X := start (argOf m)) (Y := left' m) (Z := fun _ => iprop(emp))
    (hX := start_intro m ρ) (hin := phi0_intro m) (hout := phi1_exit m)
    (QY := Ends m) (hY := ends m)
    (hQ := fun _ h hs => ⟨fun c => ⟨((h c).1 0).trans (out_array m c), (h c).2.2.2⟩, sem_eq_zero hs fun c => (h c).2.2.1⟩)

end Cert.KernelIdeal.Top
-- ==== Proof.Pick.lean ====
/-
Selection on one row, as mathematics over any linear order with a least element: what a lane's six registers hold
after a sequence of elements went past them, which values the emission of a row's columns reaches, and what the
merge of two lists of candidates gives.
-/
module

public import Mathlib.Order.BoundedOrder.Basic
public import Mathlib.Order.Lattice
public import Mathlib.Algebra.BigOperators.Group.Finset.Basic
public import Mathlib.Algebra.Order.BigOperators.Group.Finset
public import Mathlib.Data.Finset.Lattice.Fold
public import Mathlib.Algebra.BigOperators.Intervals
public import Mathlib.Data.Fintype.Basic
public import Mathlib.Tactic.Push
public import Mathlib.Tactic.Tauto

@[expose] public section

noncomputable section

namespace Cert.Pick

open Finset

variable {α : Type} [LinearOrder α] [OrderBot α]

/-! ### Six registers -/

/-- What is left of `t` after registers `0, …, s - 1`. -/
def past (r : ℕ → α) (t : α) : ℕ → α
  | 0 => t
  | s + 1 => min (r s) (past r t s)

/-- Register `s` after the first `n` elements. -/
def reg (a : ℕ → α) : ℕ → ℕ → α
  | 0 => fun _ => ⊥
  | n + 1 => fun s => max (reg a n s) (past (reg a n) (a n) s)

/-- What falls out of the last register when element `n` goes past. -/
abbrev out (a : ℕ → α) (n : ℕ) : α := past (reg a n) (a n) 6

/-- How many of the first `n` of `a` satisfy `p`. -/
def count (p : α → Prop) [DecidablePred p] (a : ℕ → α) (n : ℕ) : ℕ := ∑ c ∈ range n, if p (a c) then 1 else 0

variable (p : α → Prop) [DecidablePred p]

theorem count_succ (a : ℕ → α) (n : ℕ) : count p a (n + 1) = count p a n + if p (a n) then 1 else 0 := sum_range_succ _ _

theorem count_mono (a : ℕ → α) {n k : ℕ} (h : n ≤ k) : count p a n ≤ count p a k :=
  sum_le_sum_of_subset (range_mono h)

theorem max_min_count (x y : α) : (if p (max x y) then 1 else 0) + (if p (min x y) then 1 else 0) = (if p x then 1 else 0) + (if p y then (1 : ℕ) else 0) := by
  rcases le_total x y with h | h
  · rw [max_eq_right h, min_eq_left h, add_comm]
  · rw [max_eq_left h, min_eq_right h]

/-- One element past `k` registers: none is lost, the last rest falls out. -/
theorem count_past (r : ℕ → α) (t : α) (k : ℕ) :
    count p (fun s => max (r s) (past r t s)) k + (if p (past r t k) then 1 else 0) = count p r k + if p t then 1 else 0 := by
  induction k with
  | zero => exact (Nat.zero_add _).trans (Nat.zero_add _).symm
  | succ k ih =>
    have h := max_min_count p (r k) (past r t k)
    rw [count_succ, count_succ, past]
    omega

theorem count_bot (h : ¬ p ⊥) (k : ℕ) : count p (fun _ => (⊥ : α)) k = 0 := by simp [count, h]

/-- The registers and what fell out of them hold the elements that went past. -/
theorem count_reg (a : ℕ → α) (h : ¬ p ⊥) (n : ℕ) : count p (reg a n) 6 + count p (out a) n = count p a n := by
  induction n with
  | zero => rw [show reg a 0 = fun _ => ⊥ from rfl, count_bot p h]; rfl
  | succ n ih =>
    have h := count_past p (reg a n) (a n) 6
    have h1 := count_succ p (out a) n
    have h2 := count_succ p a n
    change count p (reg a (n + 1)) 6 + (if p (out a n) then 1 else 0) = _ at h
    omega

theorem reg_sorted (a : ℕ → α) (n s : ℕ) : reg a n (s + 1) ≤ reg a n s := by
  induction n generalizing s with
  | zero => exact le_rfl
  | succ n ih =>
    refine max_le ((ih s).trans (le_max_left _ _)) ?_
    exact (min_le_left _ _).trans (le_max_left _ _)

theorem past_mem (r : ℕ → α) (t : α) (k : ℕ) : past r t k = t ∨ ∃ s < k, past r t k = r s := by
  induction k with
  | zero => exact .inl rfl
  | succ k ih =>
    rcases min_choice (r k) (past r t k) with h | h
    · exact .inr ⟨k, k.lt_succ_self, h⟩
    · rcases ih with g | ⟨s, hs, g⟩
      · exact .inl (h.trans g)
      · exact .inr ⟨s, hs.trans k.lt_succ_self, h.trans g⟩

/-- A register holds the least element or one of those that went past. -/
theorem reg_mem (a : ℕ → α) (n s : ℕ) : reg a n s = ⊥ ∨ ∃ c < n, reg a n s = a c := by
  induction n generalizing s with
  | zero => exact .inl rfl
  | succ n ih =>
    have old : ∀ s, reg a n s = ⊥ ∨ ∃ c < n + 1, reg a n s = a c := fun s => (ih s).imp id fun ⟨c, hc, h⟩ => ⟨c, hc.trans n.lt_succ_self, h⟩
    change max _ _ = _ ∨ ∃ c < n + 1, max _ _ = _
    rcases max_choice (reg a n s) (past (reg a n) (a n) s) with h | h
    · rw [h]; exact old s
    · rw [h]
      rcases past_mem (reg a n) (a n) s with g | ⟨k, -, g⟩
      · exact .inr ⟨n, n.lt_succ_self, g⟩
      · rw [g]; exact old k

theorem past_anti (r : ℕ → α) (t : α) {s k : ℕ} (h : s ≤ k) : past r t k ≤ past r t s := by
  induction h with
  | refl => exact le_rfl
  | step _ ih => exact (min_le_right _ _).trans ih

/-- With at most six elements from `v` on, nothing from `v` on falls out. -/
theorem out_lt (a : ℕ → α) {v : α} (hv : ⊥ < v) {N : ℕ} (h6 : count (v ≤ ·) a N ≤ 6) {n : ℕ} (hn : n < N) : out a n < v := by
  by_contra hc
  have hc : v ≤ out a n := not_lt.mp hc
  have h := count_reg (v ≤ ·) a (not_le.mpr hv) (n + 1)
  have hall : count (v ≤ ·) (reg a (n + 1)) 6 = 6 := by
    unfold count
    rw [sum_congr rfl (g := fun _ => 1), sum_const, card_range]; · rfl
    intro s hs
    rw [if_pos]
    exact (hc.trans (past_anti _ _ (mem_range.mp hs).le)).trans (le_max_right _ _)
  have ho : 1 ≤ count (v ≤ ·) (out a) (n + 1) := by
    rw [count_succ, if_pos hc]; omega
  have := count_mono (v ≤ ·) a (show n + 1 ≤ N by omega)
  omega

/-- Then the registers hold every element from `v` on as often as it went past. -/
theorem count_reg_eq (a : ℕ → α) {v : α} (hv : ⊥ < v) {N : ℕ} (h6 : count (v ≤ ·) a N ≤ 6) (hp : ∀ x, p x → v ≤ x) :
    count p (reg a N) 6 = count p a N := by
  have h := count_reg p a (fun hb => absurd (hp _ hb) (not_le.mpr hv)) N
  have : count p (out a) N = 0 := by
    unfold count
    refine sum_eq_zero fun n hn => if_neg fun hb => ?_
    exact absurd (hp _ hb) (not_le.mpr (out_lt a hv h6 (mem_range.mp hn)))
  omega

theorem exists_of_count_pos {a : ℕ → α} {n : ℕ} (h : 0 < count p a n) : ∃ c < n, p (a c) := by
  by_contra hc
  push Not at hc
  have : count p a n = 0 := sum_eq_zero fun c hc' => if_neg (hc c (mem_range.mp hc'))
  omega

theorem count_pos {a : ℕ → α} {n c : ℕ} (hc : c < n) (h : p (a c)) : 0 < count p a n := by
  refine sum_pos' (fun _ _ => Nat.zero_le _) ⟨c, mem_range.mpr hc, ?_⟩
  rw [if_pos h]; exact Nat.one_pos

/-- An element from `v` on is in a register. -/
theorem mem_reg (a : ℕ → α) {v : α} (hv : ⊥ < v) {N : ℕ} (h6 : count (v ≤ ·) a N ≤ 6) {c : ℕ} (hc : c < N) (hw : v ≤ a c) :
    ∃ s < 6, reg a N s = a c := by
  have h := count_reg_eq (· = a c) a hv h6 (fun x hx => hx ▸ hw)
  exact exists_of_count_pos (· = a c) (h ▸ count_pos (· = a c) hc rfl)

/-! ### Emission -/

variable {ι : Type} [Fintype ι]

/-- The greatest frontier element. -/
def top (q : ι → ℕ → α) : α := univ.sup fun l => q l 0

/-- The lanes whose frontier is the greatest move up by one. -/
def shift (q : ι → ℕ → α) (l : ι) : ℕ → α
  | 5 => if q l 0 = top q then ⊥ else q l 5
  | s => if q l 0 = top q then q l (s + 1) else q l s

/-- The lanes after `i` emissions. -/
def left (q : ι → ℕ → α) : ℕ → ι → ℕ → α
  | 0 => q
  | i + 1 => shift (left q i)

theorem shift_of_lt (q : ι → ℕ → α) (l : ι) {s : ℕ} (h : s < 5) : shift q l s = if q l 0 = top q then q l (s + 1) else q l s := by
  unfold shift
  split
  · omega
  · rfl

theorem left_succ' (q : ι → ℕ → α) (i : ℕ) : left q (i + 1) = left (shift q) i := by
  induction i with
  | zero => rfl
  | succ i ih => change shift (left q (i + 1)) = _; rw [ih]; rfl

/-- The six elements of every lane do not increase. -/
def Sorted (q : ι → ℕ → α) : Prop := ∀ l, ∀ s < 5, q l (s + 1) ≤ q l s

theorem shift_sorted {q : ι → ℕ → α} (h : Sorted q) : Sorted (shift q) := fun l s hs => by
  rw [shift_of_lt q l hs]
  rcases Nat.lt_or_ge (s + 1) 5 with g | g
  · rw [shift_of_lt q l g]
    split
    · exact h l _ g
    · exact h l _ hs
  · obtain rfl : s = 4 := by omega
    change (if q l 0 = top q then ⊥ else q l 5) ≤ _
    split
    · exact bot_le
    · exact h l _ hs

theorem Sorted.le_head {q : ι → ℕ → α} (h : Sorted q) (l : ι) {s : ℕ} (hs : s < 6) : q l s ≤ q l 0 := by
  induction s with
  | zero => exact le_rfl
  | succ s ih => exact (h l s (by omega)).trans (ih (by omega))

theorem shift_mem (q : ι → ℕ → α) (l : ι) {s : ℕ} (hs : s < 6) : shift q l s = ⊥ ∨ ∃ k < 6, shift q l s = q l k := by
  rcases Nat.lt_or_ge s 5 with g | g
  · rw [shift_of_lt q l g]
    split
    · exact .inr ⟨s + 1, by omega, rfl⟩
    · exact .inr ⟨s, hs, rfl⟩
  · obtain rfl : s = 5 := by omega
    change (if q l 0 = top q then ⊥ else q l 5) = ⊥ ∨ ∃ k < 6, (if q l 0 = top q then ⊥ else q l 5) = q l k
    split
    · exact .inl rfl
    · exact .inr ⟨5, hs, rfl⟩

/-- What remains is the least element or was there before. -/
theorem left_mem (q : ι → ℕ → α) (i : ℕ) (l : ι) {s : ℕ} (hs : s < 6) : left q i l s = ⊥ ∨ ∃ k < 6, left q i l s = q l k := by
  induction i generalizing s with
  | zero => exact .inr ⟨s, hs, rfl⟩
  | succ i ih =>
    rcases shift_mem (left q i) l hs with h | ⟨k, hk, h⟩
    · exact .inl h
    · change shift (left q i) l s = ⊥ ∨ ∃ k < 6, shift (left q i) l s = q l k
      rw [h]; exact ih hk

/-- The greatest frontier element is a lane's, or the least element. -/
theorem top_mem (q : ι → ℕ → α) : top q = ⊥ ∨ ∃ l, q l 0 = top q := by
  rcases isEmpty_or_nonempty ι with h | h
  · exact .inl (by unfold top; rw [univ_eq_empty, sup_empty])
  · obtain ⟨l, -, hl⟩ := exists_mem_eq_sup univ univ_nonempty fun l => q l 0
    exact .inr ⟨l, hl.symm⟩

theorem le_top' (q : ι → ℕ → α) (l : ι) : q l 0 ≤ top q := le_sup (f := fun l => q l 0) (mem_univ l)

/-- What an emission gives is the least element or one of the lanes'. -/
theorem top_left_mem (q : ι → ℕ → α) (i : ℕ) : top (left q i) = ⊥ ∨ ∃ l, ∃ k < 6, top (left q i) = q l k := by
  rcases top_mem (left q i) with h | ⟨l, h⟩
  · exact .inl h
  · rcases left_mem q i l (s := 0) (by omega) with g | ⟨k, hk, g⟩
    · exact .inl (h ▸ g)
    · exact .inr ⟨l, k, hk, h ▸ g⟩

/-- How many of the lanes' elements are greater than `v`. -/
def above (v : α) (q : ι → ℕ → α) : ℕ := ∑ l, count (v < ·) (q l) 6

theorem count_shift_hit (v : α) (q : ι → ℕ → α) (l : ι) (h : q l 0 = top q) :
    count (v < ·) (shift q l) 6 + (if v < q l 0 then 1 else 0) = count (v < ·) (q l) 6 := by
  have h5 : shift q l 5 = ⊥ := if_pos h
  have hs : ∀ s ∈ range 5, (if v < shift q l s then 1 else 0) = (if v < q l (s + 1) then (1 : ℕ) else 0) := fun s hs => by
    rw [shift_of_lt q l (mem_range.mp hs), if_pos h]
  unfold count
  rw [sum_range_succ, sum_range_succ' _ 5, sum_congr rfl hs, h5, if_neg not_lt_bot]
  rfl

theorem count_shift_miss (v : α) (q : ι → ℕ → α) (l : ι) (h : q l 0 ≠ top q) : count (v < ·) (shift q l) 6 = count (v < ·) (q l) 6 := by
  refine sum_congr rfl fun s hs => ?_
  have hs := mem_range.mp hs
  have : shift q l s = q l s := by
    rcases Nat.lt_or_ge s 5 with g | g
    · rw [shift_of_lt q l g, if_neg h]
    · obtain rfl : s = 5 := by omega
      exact if_neg h
  rw [this]

/-- An emission of an element greater than `v` lessens the number of those. -/
theorem above_shift_lt {v : α} {q : ι → ℕ → α} (h : v < top q) : above v (shift q) < above v q := by
  have hle : ∀ l, count (v < ·) (shift q l) 6 ≤ count (v < ·) (q l) 6 := fun l => by
    by_cases g : q l 0 = top q
    · have := count_shift_hit v q l g; omega
    · exact (count_shift_miss v q l g).le
  rcases top_mem q with g | ⟨l, g⟩
  · rw [g] at h; exact absurd h not_lt_bot
  · refine sum_lt_sum (fun l _ => hle l) ⟨l, mem_univ l, ?_⟩
    have := count_shift_hit v q l g
    rw [if_pos (g ▸ h)] at this
    omega

/-- A lane's element is emitted after those greater than it. -/
theorem emitted {v : α} (n : ℕ) : ∀ (q : ι → ℕ → α), Sorted q → above v q ≤ n → (∃ l, ∃ s < 6, q l s = v) → ∃ i ≤ n, top (left q i) = v := by
  induction n with
  | zero =>
    rintro q hq hn ⟨l, s, hs, rfl⟩
    refine ⟨0, le_rfl, ?_⟩
    by_contra hne
    have hlt : q l s < top q := lt_of_le_of_ne ((hq.le_head l hs).trans (le_top' q l)) (Ne.symm hne)
    have := above_shift_lt hlt
    omega
  | succ n ih =>
    rintro q hq hn ⟨l, s, hs, rfl⟩
    by_cases he : top q = q l s
    · exact ⟨0, Nat.zero_le _, he⟩
    have hlt : q l s < top q := lt_of_le_of_ne ((hq.le_head l hs).trans (le_top' q l)) (Ne.symm he)
    have hn' := above_shift_lt hlt
    obtain ⟨i, hi, h⟩ := ih (shift q) (shift_sorted hq) (by omega) (by
      by_cases g : q l 0 = top q
      · have h0 : s ≠ 0 := by rintro rfl; exact he g.symm
        obtain ⟨k, rfl⟩ := Nat.exists_eq_succ_of_ne_zero h0
        exact ⟨l, k, by omega, (shift_of_lt q l (by omega)).trans (if_pos g)⟩
      · refine ⟨l, s, hs, ?_⟩
        rcases Nat.lt_or_ge s 5 with g' | g'
        · exact (shift_of_lt q l g').trans (if_neg g)
        · obtain rfl : s = 5 := by omega
          exact if_neg g)
    exact ⟨i + 1, by omega, by rw [left_succ']; exact h⟩

/-! ### The merge -/

/-- The candidates without those equal to the greatest. -/
def strike (w : ι → α) (j : ι) : α := if w j = univ.sup w then ⊥ else w j

/-- The candidates after `i` columns were written. -/
def merge (w : ι → α) : ℕ → ι → α
  | 0 => w
  | i + 1 => strike (merge w i)

section
variable {w : ι → α} {v : ℕ → α} {K : ℕ}

/-- Candidates whose elements from `v K` on are exactly `v 0 > v 1 > … > v K` are written in this order: before
    step `i` those equal to `v 0, …, v (i - 1)` are struck out. -/
theorem merge_eq (hv : ∀ i < K, v (i + 1) < v i) (hb : ⊥ < v K) (hin : ∀ i ≤ K, ∃ j, w j = v i) (hof : ∀ j, v K ≤ w j → ∃ i ≤ K, w j = v i)
    (i : ℕ) (hi : i ≤ K) : (∀ j, merge w i j = if ∃ k < i, w j = v k then ⊥ else w j) ∧ univ.sup (merge w i) = v i := by
  have anti : ∀ b ≤ K, ∀ a < b, v b < v a := by
    intro b
    induction b with
    | zero => intro _ a h; omega
    | succ b ih =>
      intro hb a ha
      rcases Nat.lt_succ_iff_lt_or_eq.mp ha with h | rfl
      · exact (hv b (by omega)).trans (ih (by omega) a h)
      · exact hv _ (by omega)
  have anti' : ∀ b ≤ K, ∀ a ≤ b, v b ≤ v a := fun b hb a ha => by
    rcases ha.lt_or_eq with h | rfl
    · exact (anti b hb a h).le
    · exact le_rfl
  have sup : ∀ i ≤ K, (∀ j, merge w i j = if ∃ k < i, w j = v k then ⊥ else w j) → univ.sup (merge w i) = v i := by
    intro i hi h
    refine le_antisymm (Finset.sup_le fun j _ => ?_) ?_
    · rw [h j]
      split
      · exact bot_le
      · rename_i hn
        by_contra hc
        have hc : v i < w j := not_le.mp hc
        obtain ⟨k, hk, e⟩ := hof j ((anti' K le_rfl i hi).trans hc.le)
        refine hn ⟨k, ?_, e⟩
        by_contra hki
        exact absurd (anti' k hk i (by omega)) (not_le.mpr (e ▸ hc))
    · obtain ⟨j, e⟩ := hin i hi
      have : merge w i j = v i := by
        rw [h j, if_neg, e]
        rintro ⟨k, hk, g⟩
        exact absurd (e ▸ g) (anti i hi k hk).ne
      exact this ▸ le_sup (f := merge w i) (mem_univ j)
  suffices h : ∀ j, merge w i j = if ∃ k < i, w j = v k then ⊥ else w j from ⟨h, sup i hi h⟩
  induction i with
  | zero => intro j; rw [if_neg]; · rfl
            · rintro ⟨k, hk, -⟩; omega
  | succ i ih =>
    intro j
    have hj := ih (by omega)
    have hs := sup i (by omega) hj
    change (if merge w i j = univ.sup (merge w i) then ⊥ else merge w i j) = _
    rw [hs, hj j]
    have hvi : ⊥ < v i := hb.trans_le (anti' K le_rfl i (by omega))
    by_cases h1 : ∃ k < i, w j = v k
    · rw [if_pos h1, if_neg hvi.ne, if_pos]
      obtain ⟨k, hk, e⟩ := h1
      exact ⟨k, by omega, e⟩
    · rw [if_neg h1]
      by_cases h2 : w j = v i
      · rw [if_pos h2, if_pos ⟨i, i.lt_succ_self, h2⟩]
      · rw [if_neg h2, if_neg]
        rintro ⟨k, hk, e⟩
        rcases Nat.lt_succ_iff_lt_or_eq.mp hk with h | rfl
        · exact h1 ⟨k, h, e⟩
        · exact h2 e
end

end Cert.Pick
-- ==== Proof.Lanes.lean ====
/-
The kernel's vectors over the extended reals, read one row at a time: a lane's registers, the emission and the merge
are those of Pick.lean.
-/
module

public import proofs.«01_k».proof.Proof.Merge
public import proofs.«01_k».proof.Proof.Trip
public import proofs.«01_k».proof.Proof.Pick
public import Idealize.ShloMosaic.PureOps.Ideal.Laws
public import Idealize.ShloMosaic.Lib.Pointwise

@[expose] public section

noncomputable section

namespace Cert.KernelIdeal.Top

open Cert.KernelIdeal Cert.KernelIdeal.Gen
open Idealize.ShloMosaic

theorem negInf_ideal : (negInf : Ideal .f32) = ⊥ := by
  simp [negInf, Scalar.ofBits, FloatOps.ofBits, Ideal.ofBits, Ideal.ieee]

theorem fold_eq_sup {ι : Type} [Fintype ι] (f : ι → EReal) :
    (Finset.univ : Finset ι).fold max (Ideal.ofBits .f32 0xFF800000#32) f = Finset.univ.sup f := by
  rw [show Ideal.ofBits .f32 0xFF800000#32 = ⊥ from negInf_ideal]; rfl

theorem ofBool_eq_one (p : Prop) [Decidable p] : BitVec.ofBool (decide p) = 1#1 ↔ p := by
  by_cases h : p <;> simp [h]

/-! ### A lane's registers -/

theorem low_apply (y : S256x128.Idx) : (low : FVec Ideal S256x128 .f32) y = ⊥ := negInf_ideal

theorem chunk_apply (v : Vec Ideal S1x256x128 .f32) (r : Fin 256) (l : Fin 128) : chunk v (ix2 r l) = v (ix3 0 r l) := by
  unfold chunk
  pointwise

theorem past_apply (r : ℕ → FVec Ideal S256x128 .f32) (t : FVec Ideal S256x128 .f32) (s : ℕ) (y : S256x128.Idx) :
    past r t s y = Pick.past (fun s => r s y) (t y) s := by
  induction s with
  | zero => rfl
  | succ s ih => change min (r s y) (past r t s y) = _; rw [ih]; rfl

theorem reg_apply (ld : ℕ → Vec Ideal S1x256x128 .f32) (n s : ℕ) (y : S256x128.Idx) :
    reg ld n s y = Pick.reg (fun n => chunk (ld n) y) n s := by
  induction n generalizing s with
  | zero => exact low_apply y
  | succ n ih =>
    change max (reg ld n s y) (past (reg ld n) (chunk (ld n)) s y) = _
    rw [past_apply, ih, show (fun s => reg ld n s y) = Pick.reg (fun n => chunk (ld n) y) n from funext ih]
    rfl

/-! ### The emission -/

theorem top_apply (v : FVec Ideal S256x128 .f32) (r : Fin 256) : top v (ix2 r 0) = Finset.univ.sup fun l : Fin 128 => v (ix2 r l) := by
  unfold top
  pointwise
  exact fold_eq_sup _

theorem hit_apply (v : FVec Ideal S256x128 .f32) (r : Fin 256) (l : Fin 128) : hit v (ix2 r l) = 1#1 ↔ v (ix2 r l) = top v (ix2 r 0) := by
  unfold hit
  pointwise
  exact ofBool_eq_one _

/-- A row's lanes as the emission starts. -/
abbrev lanes (ld : ℕ → Vec Ideal S1x256x128 .f32) (r : Fin 256) (l : Fin 128) : ℕ → EReal := Pick.reg (fun n => ld n (ix3 0 r l)) 64

theorem select_apply' (h : IVec S256x128 1) (a b : FVec Ideal S256x128 .f32) (y : S256x128.Idx) : select h a b y = if h y = 1#1 then a y else b y := rfl

theorem left_apply (ld : ℕ → Vec Ideal S1x256x128 .f32) (i s : ℕ) (r : Fin 256) (l : Fin 128) :
    left ld i s (ix2 r l) = Pick.left (lanes ld r) i l s := by
  induction i generalizing l s with
  | zero =>
    change reg ld 64 s (ix2 r l) = Pick.reg _ 64 s
    rw [reg_apply]
    simp only [chunk_apply]
  | succ i ih =>
    have ht : top (left ld i 0) (ix2 r 0) = Pick.top (Pick.left (lanes ld r) i) := by
      rw [top_apply]; simp only [ih]; rfl
    change moveUp (hit (left ld i 0)) (left ld i) s (ix2 r l) = Pick.shift (Pick.left (lanes ld r) i) l s
    unfold moveUp Pick.shift
    split <;> simp only [select_apply', hit_apply, ht, ih, low_apply]

theorem col_apply (ld : ℕ → Vec Ideal S1x256x128 .f32) (i : ℕ) (r : Fin 256) :
    col ld i (ix2 r 0) = Pick.top (Pick.left (lanes ld r) i) := by
  unfold col
  rw [shapeCast_self, top_apply]
  simp only [left_apply]
  rfl

/-- Device rows `x`, row `r`, lane `l`: the six registers after all the chunks. -/
def rowLanes (x : Vec Ideal S1024x8192 .f32) (r : Fin 1024) (l : Fin 128) : ℕ → EReal :=
  Pick.reg (fun n => x (ix2 r ⟨(128 * n + l.val) % 8192, Nat.mod_lt _ (by decide)⟩)) 64

theorem sendOf_apply (x : Vec Ideal S1024x8192 .f32) (r : Fin 1024) (i : Fin 32) :
    sendOf x (ix2 r i) = Pick.top (Pick.left (rowLanes x r) i.val) := by
  refine (col_apply (ldOf x (r.val / 256)) i.val ⟨r.val % 256, Nat.mod_lt _ (by decide)⟩).trans ?_
  have : lanes (ldOf x (r.val / 256)) ⟨r.val % 256, Nat.mod_lt _ (by decide)⟩ = rowLanes x r := by
    funext l
    unfold lanes rowLanes
    congr 1
    funext n
    change x (ix2 ⟨(256 * (r.val / 256) + r.val % 256) % 1024, _⟩ _) = _
    congr 2
    refine Fin.ext ?_
    change (256 * (r.val / 256) + r.val % 256) % 1024 = r.val
    omega
  rw [this]

/-! ### The merge -/

theorem outCol_apply (v : FVec Ideal S256x64 .f32) (r : Fin 256) : outCol v (ix2 r 0) = Finset.univ.sup fun j : Fin 64 => v (ix2 r j) := by
  unfold outCol best
  pointwise
  exact fold_eq_sup _

theorem strike_apply (v : FVec Ideal S256x64 .f32) (r : Fin 256) (j : Fin 64) :
    strike v (ix2 r j) = if v (ix2 r j) = outCol v (ix2 r 0) then ⊥ else v (ix2 r j) := by
  unfold strike
  pointwise
  rw [negInf_ideal]

/-- A row's candidates: 32 of its own block and 32 of the other. -/
def both {n : ℕ} (a b : FVec Ideal ⟨2, ![n, 32]⟩ .f32) (r : Fin n) (j : Fin 64) : EReal :=
  if h : j.val < 32 then a (ix2 r ⟨j.val, h⟩) else b (ix2 r ⟨j.val - 32, by omega⟩)

theorem merge_apply (a b : Vec Ideal S256x32 .f32) (i : ℕ) (r : Fin 256) (j : Fin 64) :
    merge a b i (ix2 r j) = Pick.merge (both a b r) i j := by
  induction i generalizing j with
  | zero =>
    unfold merge Pick.merge both
    pointwise
  | succ i ih =>
    change strike (merge a b i) (ix2 r j) = Pick.strike (Pick.merge (both a b r) i) j
    rw [strike_apply, outCol_apply]
    simp only [ih]
    rfl

theorem mergeOf_apply (Y Z : Vec Ideal S1024x32 .f32) (r : Fin 1024) (i : Fin 32) :
    mergeOf Y Z (ix2 r i) = Finset.univ.sup (Pick.merge (both Y Z r) i.val) := by
  refine (outCol_apply (merge (blkOf Y (r.val / 256)) (blkOf Z (r.val / 256)) i.val) ⟨r.val % 256, Nat.mod_lt _ (by decide)⟩).trans ?_
  simp only [merge_apply]
  have blk : ∀ (W : Vec Ideal S1024x32 .f32) (j : Fin 32), blkOf W (r.val / 256) (ix2 ⟨r.val % 256, Nat.mod_lt _ (by decide)⟩ j) = W (ix2 r j) := by
    intro W j
    change W (ix2 ⟨(256 * (r.val / 256) + r.val % 256) % 1024, _⟩ ⟨j.val % 32, _⟩) = _
    congr 2 <;> refine Fin.ext ?_
    · change (256 * (r.val / 256) + r.val % 256) % 1024 = r.val
      omega
    · exact Nat.mod_eq_of_lt j.isLt
  have : both (blkOf Y (r.val / 256)) (blkOf Z (r.val / 256)) ⟨r.val % 256, Nat.mod_lt _ (by decide)⟩ = both Y Z r := by
    funext j
    unfold both
    split <;> exact blk _ _
  rw [this]

end Cert.KernelIdeal.Top
-- ==== Proof.Row.lean ====
/-
One row of the whole matrix against the two halves that two devices hold: when the row's 32 greatest elements are
pairwise different and no lane of either half holds more than six of the elements from the least of them on, the
merge of the two halves' candidates gives the 32 greatest in order.
-/
module

public import proofs.«01_k».proof.Proof.Pick
public import Mathlib.Data.EReal.Basic

@[expose] public section

noncomputable section

namespace Cert.Pick

open Finset

/-! ### One half -/

section half
variable {α : Type} [LinearOrder α] [OrderBot α] {ι : Type} [Fintype ι]

/-- The registers of all lanes after `N` elements each. -/
def regs (y : ι → ℕ → α) (N : ℕ) (l : ι) : ℕ → α := reg (y l) N

/-- Candidate `i` of a half. -/
def cand (y : ι → ℕ → α) (N i : ℕ) : α := top (left (regs y N) i)

/-- A candidate is the least element or one of the half's. -/
theorem cand_mem (y : ι → ℕ → α) (N i : ℕ) : cand y N i = ⊥ ∨ ∃ l, ∃ c < N, cand y N i = y l c := by
  rcases top_left_mem (regs y N) i with h | ⟨l, k, -, h⟩
  · exact .inl h
  · rcases reg_mem (y l) N k with g | ⟨c, hc, g⟩
    · exact .inl (h.trans g)
    · exact .inr ⟨l, c, hc, h.trans g⟩

/-- An element of the half with few greater ones is a candidate. -/
theorem mem_cand (y : ι → ℕ → α) (N : ℕ) {v w : α} (hv : ⊥ < v) (hvw : v ≤ w) (h6 : ∀ l, count (v ≤ ·) (y l) N ≤ 6) {n : ℕ}
    (hn : ∑ l, count (w < ·) (y l) N ≤ n) (hw : ∃ l, ∃ c < N, y l c = w) : ∃ i ≤ n, cand y N i = w := by
  obtain ⟨l, c, hc, rfl⟩ := hw
  refine emitted n (regs y N) (fun l s _ => reg_sorted (y l) N s) ?_ ⟨l, mem_reg (y l) hv (h6 l) hc hvw⟩
  refine le_trans (sum_le_sum fun m _ => ?_) hn
  exact (count_reg_eq (y l c < ·) (y m) hv (h6 m) fun x hx => hvw.trans hx.le).le

end half

/-! ### The row -/

/-- `v 0, …, v 31` are the elements of `x` from `v 31` on. -/
structure Greatest (x : Fin 16384 → EReal) (v : ℕ → EReal) : Prop where
  mem : ∀ i < 32, ∃ j, x j = v i
  all : ∀ j, v 31 ≤ x j → ∃ i < 32, x j = v i
  few : ∀ i < 32, (univ.filter fun j => v i < x j).card ≤ 31

/-- A permutation that puts `x` in order gives them. -/
theorem greatest_of_perm (x : Fin 16384 → EReal) (σ : Fin 16384 → Fin 16384) (hσ : Function.Bijective σ)
    (h : ∀ a b, a < b → x (σ b) ≤ x (σ a)) (v : ℕ → EReal) (hv : ∀ i (hi : i < 32), v i = x (σ ⟨i, by omega⟩)) : Greatest x v where
  mem i hi := ⟨_, (hv i hi).symm⟩
  all j hj := by
    obtain ⟨k, rfl⟩ := hσ.2 j
    rcases Nat.lt_or_ge k.val 32 with hk | hk
    · exact ⟨k.val, hk, (hv k.val hk).symm⟩
    · refine ⟨31, by omega, le_antisymm ?_ hj⟩
      rw [hv 31 (by omega)]
      exact h _ _ (Fin.lt_def.mpr (by change 31 < k.val; omega))
  few i hi := by
    have hs : (univ.filter fun j => v i < x j) ⊆ (univ.filter fun k : Fin 16384 => k.val < i).image σ := fun j hj => by
      obtain ⟨k, rfl⟩ := hσ.2 j
      have hk := (mem_filter.mp hj).2
      refine mem_image_of_mem _ (mem_filter.mpr ⟨mem_univ _, ?_⟩)
      by_contra hc
      rw [hv i hi] at hk
      rcases Nat.lt_or_ge i k.val with g | g
      · exact absurd (h ⟨i, by omega⟩ k (Fin.lt_def.mpr g)) (not_le.mpr hk)
      · have : k = ⟨i, by omega⟩ := Fin.ext (by change k.val = i; omega)
        rw [this] at hk
        exact lt_irrefl _ hk
    refine (card_le_card hs).trans (card_image_le.trans ?_)
    have : (univ.filter fun k : Fin 16384 => k.val < i).card ≤ (range i).card :=
      card_le_card_of_injOn Fin.val (fun k hk => mem_coe.mpr (mem_range.mpr (mem_filter.mp (mem_coe.mp hk)).2)) (Fin.val_injective.injOn)
    rw [card_range] at this
    omega

/-- Element `c` of lane `l` of half `h`. -/
def half (x : Fin 16384 → EReal) (h : Fin 2) (l : Fin 128) (c : ℕ) : EReal := x ⟨8192 * h.val + (128 * c + l.val) % 8192, by omega⟩

variable {x : Fin 16384 → EReal} {v : ℕ → EReal}

theorem exists_half (x : Fin 16384 → EReal) (j : Fin 16384) : ∃ h l, ∃ c < 64, half x h l c = x j := by
  refine ⟨⟨j.val / 8192, by omega⟩, ⟨j.val % 128, Nat.mod_lt _ (by decide)⟩, j.val % 8192 / 128, by omega, ?_⟩
  unfold half
  congr 1
  refine Fin.ext ?_
  change 8192 * (j.val / 8192) + (128 * (j.val % 8192 / 128) + j.val % 128) % 8192 = j.val
  omega

/-- A half holds no more elements greater than `v` than the row does. -/
theorem sum_half_le (x : Fin 16384 → EReal) (w : EReal) (h : Fin 2) :
    ∑ l, count (w < ·) (half x h l) 64 ≤ (univ.filter fun j => w < x j).card := by
  have : ∑ l, count (w < ·) (half x h l) 64 = ((univ ×ˢ range 64).filter fun p : Fin 128 × ℕ => w < half x h p.1 p.2).card := by
    rw [card_filter, sum_product]; rfl
  rw [this]
  refine card_le_card_of_injOn (fun p => ⟨8192 * h.val + (128 * p.2 + p.1.val) % 8192, by omega⟩) (fun p hp => ?_) ?_
  · exact mem_coe.mpr (mem_filter.mpr ⟨mem_univ _, (mem_filter.mp (mem_coe.mp hp)).2⟩)
  · rintro ⟨l, c⟩ hp ⟨l', c'⟩ hp' e
    have h1 := mem_range.mp (mem_product.mp (mem_filter.mp (mem_coe.mp hp)).1).2
    have h2 := mem_range.mp (mem_product.mp (mem_filter.mp (mem_coe.mp hp')).1).2
    have e := congrArg Fin.val e
    change c < 64 at h1
    change c' < 64 at h2
    change 8192 * h.val + (128 * c + l.val) % 8192 = 8192 * h.val + (128 * c' + l'.val) % 8192 at e
    refine Prod.ext (Fin.ext ?_) ?_
    · change l.val = l'.val; omega
    · change c = c'; omega

theorem bot_lt_least (h6 : ∀ h l, count (v 31 ≤ ·) (half x h l) 64 ≤ 6) : ⊥ < v 31 := by
  by_contra hc
  have hb : v 31 = ⊥ := not_bot_lt_iff.mp hc
  have := h6 0 0
  rw [hb] at this
  have e : count ((⊥ : EReal) ≤ ·) (half x 0 0) 64 = 64 := by
    unfold count
    rw [sum_congr rfl (g := fun _ => 1) fun _ _ => if_pos bot_le, sum_const, card_range]; rfl
  omega

/-- The merge of the two halves' candidates, in either order, gives the row's greatest elements. -/
theorem merge_row (G : Greatest x v) (hv : ∀ i < 31, v (i + 1) < v i) (h6 : ∀ h l, count (v 31 ≤ ·) (half x h l) 64 ≤ 6)
    {h h' : Fin 2} (hh : h ≠ h') (w : Fin 64 → EReal)
    (hw : ∀ j : Fin 64, w j = if j.val < 32 then cand (half x h) 64 j.val else cand (half x h') 64 (j.val - 32)) {i : ℕ} (hi : i < 32) :
    univ.sup (merge w i) = v i := by
  have hb := bot_lt_least h6
  have anti : ∀ k ≤ 31, v 31 ≤ v k := by
    intro k hk
    induction hk using Nat.decreasingInduction with
    | self => exact le_rfl
    | of_succ k hk ih => exact ih.trans (hv k (by omega)).le
  refine (merge_eq (K := 31) hv hb (fun i hi => ?_) (fun j hj => ?_) i (by omega)).2
  · obtain ⟨j, hj⟩ := G.mem i (by omega)
    obtain ⟨g, l, c, hc, e⟩ := exists_half x j
    have hn := (sum_half_le x (v i) g).trans (G.few i (by omega))
    obtain ⟨k, hk, hck⟩ := mem_cand (half x g) 64 hb (anti i hi) (h6 g) hn ⟨l, c, hc, e.trans hj⟩
    by_cases hg : g = h
    · subst hg
      refine ⟨⟨k, by omega⟩, ?_⟩
      rw [hw, if_pos (by change k < 32; omega)]
      exact hck
    · have hg' : g = h' := by omega
      subst hg'
      refine ⟨⟨k + 32, by omega⟩, ?_⟩
      rw [hw, if_neg (by change ¬ k + 32 < 32; omega)]
      exact hck
  · have hm : w j = ⊥ ∨ ∃ k, w j = x k := by
      rw [hw]
      split
      · rcases cand_mem (half x h) 64 j.val with g | ⟨l, c, -, g⟩
        · exact .inl g
        · exact .inr ⟨_, g⟩
      · rcases cand_mem (half x h') 64 (j.val - 32) with g | ⟨l, c, -, g⟩
        · exact .inl g
        · exact .inr ⟨_, g⟩
    rcases hm with g | ⟨k, g⟩
    · rw [g] at hj; exact absurd hj (not_le.mpr hb)
    · obtain ⟨i, hi, e⟩ := G.all k (g ▸ hj)
      exact ⟨i, by omega, g.trans e⟩

end Cert.Pick
-- ==== Proof.Sorted.lean ====
/-
The sort of a row and the take of its first 32 positions, over the extended reals: column `i` of the reference is the
element at the position a permutation that puts the row in decreasing order gives for `i`.
-/
module

public import proofs.«01_k».proof.Proof.Gen.On_selectable
public import proofs.«01_k».proof.Proof.Row
public import Idealize.ShloMosaic.PureOps.Ideal.Laws
public import Idealize.ShloMosaic.Lib.Pointwise
public import Idealize.ShloMosaic.Lib.SortFacts

@[expose] public section

noncomputable section

namespace Cert.On_selectable

open Idealize.ShloMosaic

variable [Facts]

/-- The sort's comparison is the order. -/
theorem comparator_ideal (a b : EReal) (k l : BitVec 32) :
    comparator_f32_i32_d1 (F := Ideal) (a, k) (b, l) = BitVec.ofBool (decide (a < b)) := by
  have h0 : (FloatOps.ofBits .f32 0x00000000#32 : Ideal .f32) = 0 := Ideal.ofBits_zero_f32
  have hz : ∀ c : EReal, Scalar.select (FloatOps.cmpf (F := Ideal) (φ := .f32) .oeq c 0) 0 c = c := fun c => by
    change (if BitVec.ofBool (decide (c = 0)) = 1#1 then (0 : EReal) else c) = c
    by_cases h : c = 0 <;> simp [h]
  have hn : ∀ c d e : EReal, Scalar.select (FloatOps.cmpf (F := Ideal) (φ := .f32) .une c c) d e = e := fun c d e => by
    change (if BitVec.ofBool (decide (c ≠ c)) = 1#1 then d else e) = e
    simp
  unfold comparator_f32_i32_d1
  simp only [h0, hz, hn]
  rfl

/-- Which position of row `r` the sort puts at `k`. -/
def src (x : FVec Ideal S1024x16384 .f32) (r : Fin 1024) : Fin 16384 → Fin 16384 :=
  sortedFrom fun k l => BitVec.ofBool (decide (-x (ix2 r k) < -x (ix2 r l))) == 1#1

theorem src_bijective (x : FVec Ideal S1024x16384 .f32) (r : Fin 1024) : Function.Bijective (src x r) :=
  ⟨sortedFrom_injective _, sortedFrom_surjective _⟩

/-- The row in the sort's order does not increase. -/
theorem src_sorted (x : FVec Ideal S1024x16384 .f32) (r : Fin 1024) (a b : Fin 16384) (h : a < b) : x (ix2 r (src x r b)) ≤ x (ix2 r (src x r a)) := by
  have key : ∀ k l, (BitVec.ofBool (decide (-x (ix2 r k) < -x (ix2 r l))) == 1#1) = decide (x (ix2 r l) < x (ix2 r k)) := fun k l => by
    by_cases g : x (ix2 r l) < x (ix2 r k)
    · simp [EReal.neg_lt_neg_iff, g]
    · simp [EReal.neg_lt_neg_iff, g]
  have := sortedFrom_noInversion (fun k l => BitVec.ofBool (decide (-x (ix2 r k) < -x (ix2 r l))) == 1#1)
    (fun k l => BitVec.ofBool (decide (-x (ix2 r k) < -x (ix2 r l))) == 1#1) (fun k l h => by
      rw [key] at h ⊢
      exact decide_eq_false (not_lt.mpr (of_decide_eq_true h).le)) (fun _ _ h => h) (fun k l n h1 h2 => by
      rw [key] at h1 h2 ⊢
      exact decide_eq_false (not_lt.mpr ((not_lt.mp (of_decide_eq_false h1)).trans (not_lt.mp (of_decide_eq_false h2))))) a b h
  rw [key] at this
  exact not_lt.mp (of_decide_eq_false this)

theorem argsort_apply (x : FVec Ideal S1024x16384 .f32) (r : Fin 1024) (k : Fin 16384) :
    fn_argsort (F := Ideal) (Host.negf x) (ix2 r k) = BitVec.ofNat 32 (src x r k).val := by
  have along : ∀ (h : 1 < S1024x16384.rank) (l : Fin 16384), Shape.Idx.along (s := S1024x16384) (ix2 r k) (⟨1, h⟩ : Fin S1024x16384.rank) l = ix2 r l :=
    fun h l => by funext a; fin_cases a <;> rfl
  have iota : ∀ l : Fin 16384, iotaInDim S1024x16384 32 1 (ix2 r l) = BitVec.ofNat 32 l.val := fun _ => rfl
  unfold fn_argsort
  dsimp only
  unfold Host.sort2
  rw [dif_pos (show 1 < S1024x16384.rank by decide)]
  dsimp only
  refine ((congrArg (iotaInDim S1024x16384 32 1) (along _ _)).trans (iota _)).trans ?_
  unfold src
  refine congrArg (fun p : Fin 16384 => BitVec.ofNat 32 p.val) (congrFun (congrArg sortedFrom (funext fun a => funext fun b => ?_)) k)
  exact congrArg (· == 1#1) ((comparator_ideal _ _ _ _).trans
    (congrArg₂ (fun p q => BitVec.ofBool (decide (-(x p : EReal) < -(x q : EReal)))) (along _ a) (along _ b)))

/-- The take's gather at an index: the element of the same row at the start index. -/
theorem gather_apply (x : FVec Ideal S1024x16384 .f32) (I : IVec S1024x32x1 32) (r : Fin 1024) (i : Fin 32) (k : Fin 16384)
    (h : (I (ix3 r i 0)).toInt.toNat = k.val) :
    Host.gather gather_S1024x16384_S1024x32x1_S1024x32_n_1_0_0_1_2_11 x I (ix2 r i) = x (ix2 r k) := by
  set d := gather_S1024x16384_S1024x32x1_S1024x32_n_1_0_0_1_2_11
  have hk := k.isLt
  have hb : d.operandBatchingDims = [0] := rfl
  have hm : d.startIndexMap = [1] := rfl
  have hn : d.sKept = [] := rfl
  have hs : d.siIdx (ix2 r i) ⟨0, by rw [hm]; decide⟩ = ix3 r i 0 := by funext b; fin_cases b <;> rfl
  unfold Host.gather
  congr 1
  funext a
  refine Fin.ext ?_
  rcases (show a = 0 ∨ a = 1 by fin_cases a; exacts [.inl rfl, .inr rfl]) with rfl | rfl
  · change d.start (ix2 r i) I 0 + d.batchCoord (ix2 r i) 0 + d.offCoord (ix2 r i) 0 = r.val
    rw [d.start_batching _ _ _ (by rw [hb]; decide), d.offCoord_eq_zero _ _ (by rw [hn]; decide)]
    unfold GatherDims.batchCoord
    rw [dif_pos (by rw [hb]; decide), Nat.zero_add, Nat.add_zero]
    rfl
  · change d.start (ix2 r i) I 1 + d.batchCoord (ix2 r i) 1 + d.offCoord (ix2 r i) 1 = k.val
    rw [d.batchCoord_eq_zero _ _ (by rw [hb]; decide), d.offCoord_eq_zero _ _ (by rw [hn]; decide), Nat.add_zero]
    unfold GatherDims.start
    rw [dif_pos (by rw [hm]; decide)]
    change min (I (d.siIdx (ix2 r i) ⟨0, _⟩)).toInt.toNat (16384 - 1) = k.val
    rw [hs, h]
    omega

theorem take_apply (x : FVec Ideal S1024x16384 .f32) (I : IVec S1024x32 32) (r : Fin 1024) (i : Fin 32) (k : Fin 16384)
    (h : I (ix2 r i) = BitVec.ofNat 32 k.val) : fn_take_along_axis (F := Ideal) x I (ix2 r i) = x (ix2 r k) := by
  have hk := k.isLt
  have hint : (BitVec.ofNat 32 k.val).toInt = k.val := by rw [BitVec.toInt_ofNat']; simp only [Int.bmod]; omega
  have hw : Scalar.select (IntOp.cmpi CmpIPredicate.slt (BitVec.ofNat 32 k.val) 0#32)
      (IntOp.addi (BitVec.ofNat 32 k.val) 16384#32) (BitVec.ofNat 32 k.val) = BitVec.ofNat 32 k.val := by
    have : IntOp.cmpi CmpIPredicate.slt (BitVec.ofNat 32 k.val) 0#32 = 0#1 := by
      have : ¬ ((k.val : Int) < 0) := by omega
      simp [IntOp.cmpi, BitVec.slt, hint, this]
    rw [this]
    rfl
  have hge : IntOp.cmpi CmpIPredicate.sge (BitVec.ofNat 32 k.val) 0#32 = 1#1 := by
    simp [IntOp.cmpi, BitVec.sle, hint]
  have hle : IntOp.cmpi CmpIPredicate.sle (BitVec.ofNat 32 k.val) 16383#32 = 1#1 := by
    have : (16383#32 : BitVec 32).toInt = 16383 := by decide
    have hk' : (k.val : Int) ≤ 16383 := by omega
    simp [IntOp.cmpi, BitVec.sle, hint, this, hk']
  unfold fn_take_along_axis
  dsimp only
  rw [show ∀ (p : IVec S1024x32 1) (a b : FVec Ideal S1024x32 .f32) (y : S1024x32.Idx), select p a b y = Scalar.select (p y) (a y) (b y) from fun _ _ _ _ => rfl]
  rw [gather_apply x _ r i k]
  · pointwise
    rw [h, hw, hge, hle]
    rfl
  · pointwise
    rw [h, hw, hint]
    rfl

/-- The reference's value: column `i` is the element at the sorted row's position `i`. -/
theorem top_apply (x : FVec Ideal S1024x16384 .f32) (r : Fin 1024) (i : Fin 32) :
    fn_take_along_axis (F := Ideal) x (extractStridedSlice S1024x32 ![0, 0] (fn_argsort (F := Ideal) (Host.negf x))
      Facts.slices_S1024x16384_S1024x32_0_0) (ix2 r i) = x (ix2 r (src x r ⟨i.val, by omega⟩)) := by
  refine take_apply x _ r i _ (Eq.trans ?_ (argsort_apply x r ⟨i.val, by omega⟩))
  pointwise

end Cert.On_selectable
-- ==== Proof.Mask.lean ====
/-
What the mask says of a row it selects: the row's 32 greatest elements are pairwise different, and of the elements
that are at least the least of them no half of the row holds more than six in one residue of the column modulo 128.
-/
module

public import proofs.«01_k».proof.Proof.Sorted
public import Idealize.ShloMosaic.Lib.IndicatorCount

@[expose] public section

noncomputable section

namespace Cert.On_selectable

open Idealize.ShloMosaic

variable [Facts]

/-- A conjunction of bits is set when every one is. -/
theorem fold_andi_eq_one {ι : Type} (f : ι → BitVec 1) (S : Finset ι) :
    S.fold IntOp.andi 1#1 f = 1#1 ↔ ∀ k ∈ S, f k = 1#1 := by
  classical
  induction S using Finset.induction_on with
  | empty => simp
  | insert a S ha ih =>
    rw [Finset.fold_insert ha, Finset.forall_mem_insert, ← ih]
    generalize f a = p
    generalize S.fold IntOp.andi 1#1 f = q
    revert p q
    decide

/-- The 32 values of the row, in decreasing order. -/
def best (x : FVec Ideal S1024x16384 .f32) (r : Fin 1024) (i : ℕ) : EReal :=
  if h : i < 32 then x (ix2 r (src x r ⟨i, by omega⟩)) else ⊥

/-- The reference's result on the row. -/
theorem best_eq (x : FVec Ideal S1024x16384 .f32) (r : Fin 1024) (i : Fin 32) :
    fn_take_along_axis (F := Ideal) x (extractStridedSlice S1024x32 ![0, 0] (fn_argsort (F := Ideal) (Host.negf x))
      Facts.slices_S1024x16384_S1024x32_0_0) (ix2 r i) = best x r i.val := by
  rw [top_apply, best, dif_pos i.isLt]

/-- The best values are the row's greatest. -/
theorem best_greatest (x : FVec Ideal S1024x16384 .f32) (r : Fin 1024) :
    Pick.Greatest (fun j => (x (ix2 r j) : EReal)) (best x r) :=
  Pick.greatest_of_perm (fun j => x (ix2 r j)) (src x r) (src_bijective x r) (src_sorted x r) (best x r)
    fun i hi => by rw [best, dif_pos hi]

/-- A count of at most 64 that the mask's signed comparison bounds by six. -/
theorem le_six (n : ℕ) (hn : n ≤ 64) (h : IntOp.cmpi CmpIPredicate.sle (BitVec.ofNat 32 n) 6#32 = 1#1) : n ≤ 6 := by
  revert h
  interval_cases n <;> decide

/-- The count over the 64 columns of a residue, as the size of a set of them. -/
theorem count_eq_card (p : EReal → Prop) [DecidablePred p] (a : ℕ → EReal) :
    (Finset.univ.filter fun c : Fin 64 => p (a c.val)).card = Pick.count p a 64 := by
  rw [Finset.card_filter, Pick.count, Finset.sum_range]

/-- What the mask says of a row it selects. -/
theorem fn_apply (x : FVec Ideal S1024x16384 .f32) (r : Fin 1024) (i : Fin 32) (h : fn (F := Ideal) x (ix2 r i) = 1#1) :
    (∀ i < 31, best x r (i + 1) < best x r i) ∧
      ∀ (h : Fin 2) (l : Fin 128), Pick.count (best x r 31 ≤ ·) (Pick.half (fun j => x (ix2 r j)) h l) 64 ≤ 6 := by
  have split : ∀ p q : BitVec 1, IntOp.andi p q = 1#1 → p = 1#1 ∧ q = 1#1 := by decide
  have bit : ∀ (p : Prop) [Decidable p], BitVec.ofBool (decide p) = 1#1 ↔ p := fun p _ => by by_cases hp : p <;> simp [hp]
  unfold fn fn_part1 at h
  dsimp only at h
  have ht := best_eq x r
  revert ht
  generalize fn_take_along_axis (F := Ideal) x (extractStridedSlice S1024x32 ![0, 0] (fn_argsort (F := Ideal) (Host.negf x))
      Facts.slices_S1024x16384_S1024x32_0_0) = top at h
  intro ht
  revert h
  -- the conclusion is put aside while the hypothesis is read at the index
  suffices hs : ∀ P : Prop, P = _ → (_ → P) from hs _ rfl
  intro P hP
  pointwise
  intro h
  obtain ⟨h1, h2⟩ := split _ _ h
  rw [fold_andi_eq_one] at h1 h2
  subst hP
  refine ⟨fun i hi => ?_, fun b l => ?_⟩
  · have := (bit _).mp (h1 ⟨i, hi⟩ (Finset.mem_univ _))
    rw [ht, ht] at this
    simpa only [Nat.add_comm] using this
  · have := h2 (b, l) (Finset.mem_univ _)
    rw [IndicatorCount.fold_addi_setWidth_eq_card] at this
    simp only [bit, ht] at this
    have := le_six _ (le_trans (Finset.card_filter_le _ _) (by simp)) this
    rw [← count_eq_card]
    refine le_trans (le_of_eq (congrArg Finset.card (Finset.filter_congr fun c _ => ?_))) this
    rw [show Pick.half (fun j => (x (ix2 r j) : EReal)) b l c.val = x (ix2 r ⟨b.val * 8192 + c.val * 128 + l.val, by omega⟩) from
      congrArg (fun j => (x (ix2 r j) : EReal)) (Fin.ext (show 8192 * b.val + (128 * c.val + l.val) % 8192 = b.val * 8192 + c.val * 128 + l.val by omega))]
    rfl

end Cert.On_selectable
-- ==== Proof.Equation.lean ====
/-
The kernel's result on a row the mask selects, on every device: the row's 32 greatest elements in decreasing order.
-/
module

public import proofs.«01_k».proof.Proof.Launch
public import proofs.«01_k».proof.Proof.Lanes
public import proofs.«01_k».proof.Proof.Mask
public import proofs.«01_k».proof.Proof.Gen.On_selectable
public import Idealize.ShloMosaic.Lib.Layout

@[expose] public section

noncomputable section

namespace Cert.KernelIdeal.Top

open Cert.KernelIdeal Cert.KernelIdeal.Gen Idealize.ShloMosaic Idealize.ShloMosaic.TcCoe

/-- The half of every row that device `c` holds. -/
def halfOf (c : Dev nD) : Fin 2 := ⟨c.val / 16, by have : c.val < 32 := c.isLt; omega⟩

theorem halfOf_partner (c : Dev nD) : halfOf c ≠ halfOf (partner c) := by revert c; decide

theorem meshLin_half (c : Dev nD) : Layout.meshLin [2, 4, 4] c.val [0] = (halfOf c).val := by
  revert c; decide

variable (x : FVec Ideal ⟨2, ![1024, 16384]⟩ .f32)

/-- Device `c`'s block of the whole array. -/
abbrev blockOf (c : Dev nD) : Vec Ideal S1024x8192 .f32 :=
  Layout.blockN ⟨2, ![1024, 8192]⟩ ⟨2, ![1024, 16384]⟩ (Layout.meshBlock [2, 4, 4] ![[], [0]] c) x

/-- Device `c`'s block at an index. -/
theorem block_apply (c : Dev nD) (r : Fin 1024) (j : Fin 8192) :
    blockOf x c (ix2 r j)
      = x (ix2 r ⟨8192 * (halfOf c).val + j.val, by omega⟩) := by
  have h := meshLin_half c
  unfold blockOf
  rw [Layout.blockN_apply]
  refine congrArg x (funext fun b => Fin.ext ?_)
  rw [Layout.TilesN.idx_val]
  rcases (show b = 0 ∨ b = 1 by fin_cases b; exacts [.inl rfl, .inr rfl]) with rfl | rfl
  · change 0 * 1024 + r.val = r.val
    omega
  · change Layout.meshLin [2, 4, 4] c.val [0] * 8192 + j.val = 8192 * (halfOf c).val + j.val
    rw [h]
    omega

/-- A device's lanes of a row are its half's. -/
theorem rowLanes_block (c : Dev nD) (r : Fin 1024) :
    rowLanes (blockOf x c) r
      = Pick.regs (Pick.half (fun j => (x (ix2 r j) : EReal)) (halfOf c)) 64 :=
  funext fun l => congrArg (Pick.reg · 64) (funext fun n => block_apply x c r _)

/-- The kernel's result on a row the mask selects. -/
theorem outOf_apply (X : (c : Dev nD) → Vec Ideal S1024x8192 .f32)
    (hX : ∀ c, X c = blockOf x c)
    (c : Dev nD) (r : Fin 1024) (i : Fin 32) (h : Cert.On_selectable.fn (F := Ideal) x (ix2 r i) = 1#1) :
    outOf (F := Ideal) X c (ix2 r i) = Cert.On_selectable.best x r i.val := by
  obtain ⟨hv, h6⟩ := Cert.On_selectable.fn_apply x r i h
  have hs : ∀ (d : Dev nD) (k : Fin 32), sendOf (rows X d) (ix2 r k) = Pick.cand (Pick.half (fun j => (x (ix2 r j) : EReal)) (halfOf d)) 64 k.val := fun d k => by
    rw [show rows X d = X d from View.read_whole .., hX, sendOf_apply, rowLanes_block]
    rfl
  unfold outOf
  rw [mergeOf_apply]
  refine Pick.merge_row (Cert.On_selectable.best_greatest x r) hv h6 (halfOf_partner c) _ (fun j => ?_) i.isLt
  unfold both
  split_ifs with hj
  · exact hs c ⟨j.val, hj⟩
  · exact hs (partner c) ⟨j.val - 32, by omega⟩

end Cert.KernelIdeal.Top
-- ==== Proof.lean ====
/-
The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.On_selectable
public import proofs.«01_k».proof.Proof.Gen.ReferenceIdeal.Run
public import proofs.«01_k».proof.Proof.Launch
public import proofs.«01_k».proof.Proof.Equation
public import proofs.«01_k».proof.Proof.Bits.Launch
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).2, h.2⟩) (Cert.Kernel.Top.run_main (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.Top.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's value on its argument. -/
def value (x : FVec Ideal Cert.On_selectable.S1024x16384 .f32) : FVec Ideal Cert.On_selectable.S1024x32 .f32 :=
  Cert.On_selectable.fn_take_along_axis (F := Ideal) x
    (extractStridedSlice Cert.On_selectable.S1024x32 ![0, 0] (Cert.On_selectable.fn_argsort (F := Ideal) (Host.negf x))
      Cert.On_selectable.Facts.slices_S1024x16384_S1024x32_0_0)

theorem algebraic : Cert.algebraic_KernelIdeal_ReferenceIdeal_on_selectable := by
  intro m g m' g' _ hX
  refine ⟨value (m' ((0 : Dev Cert.ReferenceIdeal.nD).tc.loc Cert.ReferenceIdeal.main_arg0)), ?_, ?_⟩
  · refine (θ_run Cert.KernelIdeal.defs _ _).mono (fun r h c => ⟨fun i hi => ?_, (h.1 c).2⟩) (Cert.KernelIdeal.Top.run_main (F := Ideal) m g)
    rw [(h.1 c).1]
    obtain ⟨a, b, rfl⟩ : ∃ (a : Fin 1024) (b : Fin 32), i = ix2 a b := ⟨i 0, i 1, by funext k; fin_cases k <;> rfl⟩
    exact (Cert.KernelIdeal.Top.outOf_apply _ _ hX c a b hi).trans (Cert.On_selectable.best_eq _ a b).symm
  · refine (θ_run Cert.ReferenceIdeal.defs _ _).mono (fun r h => ⟨fun i _ => congrFun ?_ i, (h 0).2⟩) (Cert.ReferenceIdeal.Value.run (F := Ideal) m' g')
    refine (h 0).1.trans ?_
    unfold value Cert.On_selectable.fn_take_along_axis Cert.On_selectable.fn_argsort
    rfl

theorem claim : Cert.Claim :=
  ⟨Cert.Kernel.Gen.facts, Cert.KernelIdeal.Gen.facts, Cert.ReferenceIdeal.Gen.facts, Cert.On_selectable.Gen.facts, frame_kernel, frame_kernelIdeal,
    frame_referenceIdeal, trivial, algebraic⟩

end Cert.Proof

end
